-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x256 : Shape := ⟨3, ![1, 256, 256]⟩
abbrev S256x256 : Shape := ⟨2, ![256, 256]⟩
abbrev S2x16x8x256 : Shape := ⟨4, ![2, 16, 8, 256]⟩
abbrev S2x8x256 : Shape := ⟨3, ![2, 8, 256]⟩
abbrev S2x16 : Shape := ⟨2, ![2, 16]⟩
abbrev S_ : Shape := ⟨0, ![]⟩
abbrev S1x1 : Shape := ⟨2, ![1, 1]⟩
abbrev S1x1x8x256 : Shape := ⟨4, ![1, 1, 8, 256]⟩
abbrev S8x256 : Shape := ⟨2, ![8, 256]⟩
abbrev S1x8x256 : Shape := ⟨3, ![1, 8, 256]⟩

abbrev nBuf : Space → Nat
  | .hbm => 2
  | .vmem => 5
  | .smem => 0
  | _ => 0

abbrev bufTy : (tb : Table) → Fin (tcTables nBuf tb) → BufTy
  | .hbm, ⟨0, _⟩ => ⟨S1x256x256, .bf16⟩
  | .hbm, ⟨1, _⟩ => ⟨S256x256, .bf16⟩
  | .local _ .vmem, ⟨0, _⟩ => ⟨S1x256x256, .bf16⟩
  | .local _ .vmem, ⟨1, _⟩ => ⟨S256x256, .bf16⟩
  | .local _ .vmem, ⟨2, _⟩ => ⟨S256x256, .bf16⟩
  | .local _ .vmem, ⟨3, _⟩ => ⟨S2x16x8x256, .bf16⟩
  | .local _ .vmem, ⟨4, _⟩ => ⟨S2x8x256, .bf16⟩
  | _, _ => ⟨S1x256x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_65 : BitVec 32) : Fin 2 → Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.addi v2 c1_i32_65
  let c16_i32_66 : BitVec 32 := 16#32
  let v70 : BitVec 32 := Scalar.remsi v69 c16_i32_66
  ![0, v70.toNat]
def k0_off2 (d0 : Dev nD) : Fin 2 → Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off3 (d0 : Dev nD) : Fin 4 → Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_74 : BitVec 32 := 0#32
  let c0_i32_75 : BitVec 32 := 0#32
  ![0, v2.toNat, 0, 0]
def k0_off4 (d0 : Dev nD) (c1_i32_65 : BitVec 32) (c0_i32_68 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.addi v2 c1_i32_65
  let c16_i32_66 : BitVec 32 := 16#32
  let v70 : BitVec 32 := Scalar.remsi v69 c16_i32_66
  let c16_i32_67 : BitVec 32 := 16#32
  let v71 : BitVec 32 := Scalar.muli v70 c16_i32_67
  let v72 : BitVec 32 := Scalar.addi v71 c0_i32_68
  let c0_i32_76 : BitVec 32 := 0#32
  ![v72.toNat, 0]
def k0_dev16 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_65 : BitVec 32 := 1#32
  let v69 : BitVec 32 := Scalar.addi v2 c1_i32_65
  let c16_i32_66 : BitVec 32 := 16#32
  let v70 : BitVec 32 := Scalar.remsi v69 c16_i32_66
  let c1_i32_72 : BitVec 32 := 1#32
  let v73 : BitVec 32 := Scalar.muli v70 c1_i32_72
  let v74 : BitVec 32 := Scalar.addi c0_i32_73 v73
  v74.toNat
def k0_dev17 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_77 : BitVec 32 := 2#32
  let v82 : BitVec 32 := Scalar.addi v2 c2_i32_77
  let c16_i32_78 : BitVec 32 := 16#32
  let v83 : BitVec 32 := Scalar.remsi v82 c16_i32_78
  let c1_i32_84 : BitVec 32 := 1#32
  let v86 : BitVec 32 := Scalar.muli v83 c1_i32_84
  let v87 : BitVec 32 := Scalar.addi c0_i32_85 v86
  v87.toNat
def k0_dev18 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_89 : BitVec 32 := 3#32
  let v95 : BitVec 32 := Scalar.addi v2 c3_i32_89
  let c16_i32_90 : BitVec 32 := 16#32
  let v96 : BitVec 32 := Scalar.remsi v95 c16_i32_90
  let c1_i32_96 : BitVec 32 := 1#32
  let v99 : BitVec 32 := Scalar.muli v96 c1_i32_96
  let v100 : BitVec 32 := Scalar.addi c0_i32_97 v99
  v100.toNat
def k0_dev19 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_101 : BitVec 32 := 4#32
  let v108 : BitVec 32 := Scalar.addi v2 c4_i32_101
  let c16_i32_102 : BitVec 32 := 16#32
  let v109 : BitVec 32 := Scalar.remsi v108 c16_i32_102
  let c1_i32_108 : BitVec 32 := 1#32
  let v112 : BitVec 32 := Scalar.muli v109 c1_i32_108
  let v113 : BitVec 32 := Scalar.addi c0_i32_109 v112
  v113.toNat
def k0_dev20 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_113 : BitVec 32 := 5#32
  let v121 : BitVec 32 := Scalar.addi v2 c5_i32_113
  let c16_i32_114 : BitVec 32 := 16#32
  let v122 : BitVec 32 := Scalar.remsi v121 c16_i32_114
  let c1_i32_120 : BitVec 32 := 1#32
  let v125 : BitVec 32 := Scalar.muli v122 c1_i32_120
  let v126 : BitVec 32 := Scalar.addi c0_i32_121 v125
  v126.toNat
def k0_dev21 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v134 : BitVec 32 := Scalar.addi v2 c6_i32_125
  let c16_i32_126 : BitVec 32 := 16#32
  let v135 : BitVec 32 := Scalar.remsi v134 c16_i32_126
  let c1_i32_132 : BitVec 32 := 1#32
  let v138 : BitVec 32 := Scalar.muli v135 c1_i32_132
  let v139 : BitVec 32 := Scalar.addi c0_i32_133 v138
  v139.toNat
def k0_dev22 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_137 : BitVec 32 := 7#32
  let v147 : BitVec 32 := Scalar.addi v2 c7_i32_137
  let c16_i32_138 : BitVec 32 := 16#32
  let v148 : BitVec 32 := Scalar.remsi v147 c16_i32_138
  let c1_i32_144 : BitVec 32 := 1#32
  let v151 : BitVec 32 := Scalar.muli v148 c1_i32_144
  let v152 : BitVec 32 := Scalar.addi c0_i32_145 v151
  v152.toNat
def k0_dev23 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v160 : BitVec 32 := Scalar.addi v2 c8_i32_149
  let c16_i32_150 : BitVec 32 := 16#32
  let v161 : BitVec 32 := Scalar.remsi v160 c16_i32_150
  let c1_i32_156 : BitVec 32 := 1#32
  let v164 : BitVec 32 := Scalar.muli v161 c1_i32_156
  let v165 : BitVec 32 := Scalar.addi c0_i32_157 v164
  v165.toNat
def k0_dev24 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_161 : BitVec 32 := 9#32
  let v173 : BitVec 32 := Scalar.addi v2 c9_i32_161
  let c16_i32_162 : BitVec 32 := 16#32
  let v174 : BitVec 32 := Scalar.remsi v173 c16_i32_162
  let c1_i32_168 : BitVec 32 := 1#32
  let v177 : BitVec 32 := Scalar.muli v174 c1_i32_168
  let v178 : BitVec 32 := Scalar.addi c0_i32_169 v177
  v178.toNat
def k0_dev25 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_173 : BitVec 32 := 10#32
  let v186 : BitVec 32 := Scalar.addi v2 c10_i32_173
  let c16_i32_174 : BitVec 32 := 16#32
  let v187 : BitVec 32 := Scalar.remsi v186 c16_i32_174
  let c1_i32_180 : BitVec 32 := 1#32
  let v190 : BitVec 32 := Scalar.muli v187 c1_i32_180
  let v191 : BitVec 32 := Scalar.addi c0_i32_181 v190
  v191.toNat
def k0_dev26 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_185 : BitVec 32 := 11#32
  let v199 : BitVec 32 := Scalar.addi v2 c11_i32_185
  let c16_i32_186 : BitVec 32 := 16#32
  let v200 : BitVec 32 := Scalar.remsi v199 c16_i32_186
  let c1_i32_192 : BitVec 32 := 1#32
  let v203 : BitVec 32 := Scalar.muli v200 c1_i32_192
  let v204 : BitVec 32 := Scalar.addi c0_i32_193 v203
  v204.toNat
def k0_dev27 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_197 : BitVec 32 := 12#32
  let v212 : BitVec 32 := Scalar.addi v2 c12_i32_197
  let c16_i32_198 : BitVec 32 := 16#32
  let v213 : BitVec 32 := Scalar.remsi v212 c16_i32_198
  let c1_i32_204 : BitVec 32 := 1#32
  let v216 : BitVec 32 := Scalar.muli v213 c1_i32_204
  let v217 : BitVec 32 := Scalar.addi c0_i32_205 v216
  v217.toNat
def k0_dev28 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_209 : BitVec 32 := 13#32
  let v225 : BitVec 32 := Scalar.addi v2 c13_i32_209
  let c16_i32_210 : BitVec 32 := 16#32
  let v226 : BitVec 32 := Scalar.remsi v225 c16_i32_210
  let c1_i32_216 : BitVec 32 := 1#32
  let v229 : BitVec 32 := Scalar.muli v226 c1_i32_216
  let v230 : BitVec 32 := Scalar.addi c0_i32_217 v229
  v230.toNat
def k0_dev29 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_221 : BitVec 32 := 14#32
  let v238 : BitVec 32 := Scalar.addi v2 c14_i32_221
  let c16_i32_222 : BitVec 32 := 16#32
  let v239 : BitVec 32 := Scalar.remsi v238 c16_i32_222
  let c1_i32_228 : BitVec 32 := 1#32
  let v242 : BitVec 32 := Scalar.muli v239 c1_i32_228
  let v243 : BitVec 32 := Scalar.addi c0_i32_229 v242
  v243.toNat
def k0_dev30 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_233 : BitVec 32 := 15#32
  let v251 : BitVec 32 := Scalar.addi v2 c15_i32_233
  let c16_i32_234 : BitVec 32 := 16#32
  let v252 : BitVec 32 := Scalar.remsi v251 c16_i32_234
  let c1_i32_240 : BitVec 32 := 1#32
  let v255 : BitVec 32 := Scalar.muli v252 c1_i32_240
  let v256 : BitVec 32 := Scalar.addi c0_i32_241 v255
  v256.toNat
def k0_off5 (d0 : Dev nD) (c1_i32_245 : BitVec 32) : Fin 2 → Nat :=
  let c1_i32_251 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v264 : BitVec 32 := Scalar.addi v2 c1_i32_245
  let c16_i32_246 : BitVec 32 := 16#32
  let v265 : BitVec 32 := Scalar.remsi v264 c16_i32_246
  ![1, v265.toNat]
def k0_off6 (d0 : Dev nD) : Fin 2 → Nat :=
  let c1_i32_250 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off7 (d0 : Dev nD) : Fin 4 → Nat :=
  let c1_i32_249 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![1, v2.toNat, 0, 0]
def k0_dev31 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_245 : BitVec 32 := 1#32
  let v264 : BitVec 32 := Scalar.addi v2 c1_i32_245
  let c16_i32_246 : BitVec 32 := 16#32
  let v265 : BitVec 32 := Scalar.remsi v264 c16_i32_246
  let c1_i32_252 : BitVec 32 := 1#32
  let v268 : BitVec 32 := Scalar.muli v265 c1_i32_252
  let v269 : BitVec 32 := Scalar.addi c0_i32_253 v268
  v269.toNat
def k0_dev32 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_257 : BitVec 32 := 2#32
  let v277 : BitVec 32 := Scalar.addi v2 c2_i32_257
  let c16_i32_258 : BitVec 32 := 16#32
  let v278 : BitVec 32 := Scalar.remsi v277 c16_i32_258
  let c1_i32_264 : BitVec 32 := 1#32
  let v281 : BitVec 32 := Scalar.muli v278 c1_i32_264
  let v282 : BitVec 32 := Scalar.addi c0_i32_265 v281
  v282.toNat
def k0_dev33 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_269 : BitVec 32 := 3#32
  let v290 : BitVec 32 := Scalar.addi v2 c3_i32_269
  let c16_i32_270 : BitVec 32 := 16#32
  let v291 : BitVec 32 := Scalar.remsi v290 c16_i32_270
  let c1_i32_276 : BitVec 32 := 1#32
  let v294 : BitVec 32 := Scalar.muli v291 c1_i32_276
  let v295 : BitVec 32 := Scalar.addi c0_i32_277 v294
  v295.toNat
def k0_dev34 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_281 : BitVec 32 := 4#32
  let v303 : BitVec 32 := Scalar.addi v2 c4_i32_281
  let c16_i32_282 : BitVec 32 := 16#32
  let v304 : BitVec 32 := Scalar.remsi v303 c16_i32_282
  let c1_i32_288 : BitVec 32 := 1#32
  let v307 : BitVec 32 := Scalar.muli v304 c1_i32_288
  let v308 : BitVec 32 := Scalar.addi c0_i32_289 v307
  v308.toNat
def k0_dev35 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_293 : BitVec 32 := 5#32
  let v316 : BitVec 32 := Scalar.addi v2 c5_i32_293
  let c16_i32_294 : BitVec 32 := 16#32
  let v317 : BitVec 32 := Scalar.remsi v316 c16_i32_294
  let c1_i32_300 : BitVec 32 := 1#32
  let v320 : BitVec 32 := Scalar.muli v317 c1_i32_300
  let v321 : BitVec 32 := Scalar.addi c0_i32_301 v320
  v321.toNat
def k0_dev36 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_305 : BitVec 32 := 6#32
  let v329 : BitVec 32 := Scalar.addi v2 c6_i32_305
  let c16_i32_306 : BitVec 32 := 16#32
  let v330 : BitVec 32 := Scalar.remsi v329 c16_i32_306
  let c1_i32_312 : BitVec 32 := 1#32
  let v333 : BitVec 32 := Scalar.muli v330 c1_i32_312
  let v334 : BitVec 32 := Scalar.addi c0_i32_313 v333
  v334.toNat
def k0_dev37 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_317 : BitVec 32 := 7#32
  let v342 : BitVec 32 := Scalar.addi v2 c7_i32_317
  let c16_i32_318 : BitVec 32 := 16#32
  let v343 : BitVec 32 := Scalar.remsi v342 c16_i32_318
  let c1_i32_324 : BitVec 32 := 1#32
  let v346 : BitVec 32 := Scalar.muli v343 c1_i32_324
  let v347 : BitVec 32 := Scalar.addi c0_i32_325 v346
  v347.toNat
def k0_dev38 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_329 : BitVec 32 := 8#32
  let v355 : BitVec 32 := Scalar.addi v2 c8_i32_329
  let c16_i32_330 : BitVec 32 := 16#32
  let v356 : BitVec 32 := Scalar.remsi v355 c16_i32_330
  let c1_i32_336 : BitVec 32 := 1#32
  let v359 : BitVec 32 := Scalar.muli v356 c1_i32_336
  let v360 : BitVec 32 := Scalar.addi c0_i32_337 v359
  v360.toNat
def k0_dev39 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_341 : BitVec 32 := 9#32
  let v368 : BitVec 32 := Scalar.addi v2 c9_i32_341
  let c16_i32_342 : BitVec 32 := 16#32
  let v369 : BitVec 32 := Scalar.remsi v368 c16_i32_342
  let c1_i32_348 : BitVec 32 := 1#32
  let v372 : BitVec 32 := Scalar.muli v369 c1_i32_348
  let v373 : BitVec 32 := Scalar.addi c0_i32_349 v372
  v373.toNat
def k0_dev40 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_353 : BitVec 32 := 10#32
  let v381 : BitVec 32 := Scalar.addi v2 c10_i32_353
  let c16_i32_354 : BitVec 32 := 16#32
  let v382 : BitVec 32 := Scalar.remsi v381 c16_i32_354
  let c1_i32_360 : BitVec 32 := 1#32
  let v385 : BitVec 32 := Scalar.muli v382 c1_i32_360
  let v386 : BitVec 32 := Scalar.addi c0_i32_361 v385
  v386.toNat
def k0_dev41 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_365 : BitVec 32 := 11#32
  let v394 : BitVec 32 := Scalar.addi v2 c11_i32_365
  let c16_i32_366 : BitVec 32 := 16#32
  let v395 : BitVec 32 := Scalar.remsi v394 c16_i32_366
  let c1_i32_372 : BitVec 32 := 1#32
  let v398 : BitVec 32 := Scalar.muli v395 c1_i32_372
  let v399 : BitVec 32 := Scalar.addi c0_i32_373 v398
  v399.toNat
def k0_dev42 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_377 : BitVec 32 := 12#32
  let v407 : BitVec 32 := Scalar.addi v2 c12_i32_377
  let c16_i32_378 : BitVec 32 := 16#32
  let v408 : BitVec 32 := Scalar.remsi v407 c16_i32_378
  let c1_i32_384 : BitVec 32 := 1#32
  let v411 : BitVec 32 := Scalar.muli v408 c1_i32_384
  let v412 : BitVec 32 := Scalar.addi c0_i32_385 v411
  v412.toNat
def k0_dev43 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_389 : BitVec 32 := 13#32
  let v420 : BitVec 32 := Scalar.addi v2 c13_i32_389
  let c16_i32_390 : BitVec 32 := 16#32
  let v421 : BitVec 32 := Scalar.remsi v420 c16_i32_390
  let c1_i32_396 : BitVec 32 := 1#32
  let v424 : BitVec 32 := Scalar.muli v421 c1_i32_396
  let v425 : BitVec 32 := Scalar.addi c0_i32_397 v424
  v425.toNat
def k0_dev44 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_401 : BitVec 32 := 14#32
  let v433 : BitVec 32 := Scalar.addi v2 c14_i32_401
  let c16_i32_402 : BitVec 32 := 16#32
  let v434 : BitVec 32 := Scalar.remsi v433 c16_i32_402
  let c1_i32_408 : BitVec 32 := 1#32
  let v437 : BitVec 32 := Scalar.muli v434 c1_i32_408
  let v438 : BitVec 32 := Scalar.addi c0_i32_409 v437
  v438.toNat
def k0_dev45 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_413 : BitVec 32 := 15#32
  let v446 : BitVec 32 := Scalar.addi v2 c15_i32_413
  let c16_i32_414 : BitVec 32 := 16#32
  let v447 : BitVec 32 := Scalar.remsi v446 c16_i32_414
  let c1_i32_420 : BitVec 32 := 1#32
  let v450 : BitVec 32 := Scalar.muli v447 c1_i32_420
  let v451 : BitVec 32 := Scalar.addi c0_i32_421 v450
  v451.toNat
def k0_off8 (d0 : Dev nD) (c0_i32_426 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_425 : BitVec 32 := 16#32
  let v459 : BitVec 32 := Scalar.muli v2 c16_i32_425
  let v460 : BitVec 32 := Scalar.addi v459 c0_i32_426
  let v461 : Index := Scalar.indexCast v460
  let c0_427 : Index := 0#32
  ![v461.toNat, 0]
def k0_off9 (d0 : Dev nD) (c1_i32_428 : BitVec 32) : Fin 4 → Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v464 : BitVec 32 := Scalar.addi v2 c1_i32_428
  let c16_i32_429 : BitVec 32 := 16#32
  let v465 : BitVec 32 := Scalar.remsi v464 c16_i32_429
  let c0_i32_435 : BitVec 32 := 0#32
  let c0_i32_436 : BitVec 32 := 0#32
  ![0, v465.toNat, 0, 0]
def k0_off10 (d0 : Dev nD) (c1_i32_428 : BitVec 32) : Fin 4 → Nat :=
  let c0_439 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v464 : BitVec 32 := Scalar.addi v2 c1_i32_428
  let c16_i32_429 : BitVec 32 := 16#32
  let v465 : BitVec 32 := Scalar.remsi v464 c16_i32_429
  let v473 : Index := Scalar.indexCast v465
  let c0_440 : Index := 0#32
  let c0_441 : Index := 0#32
  ![0, v473.toNat, 0, 0]
def k0_off11 (d0 : Dev nD) (c0_i32_650 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_649 : BitVec 32 := 16#32
  let v686 : BitVec 32 := Scalar.muli v2 c16_i32_649
  let v687 : BitVec 32 := Scalar.addi v686 c0_i32_650
  let c0_i32_656 : BitVec 32 := 0#32
  ![v687.toNat, 0]
def k0_dev46 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_647 : BitVec 32 := 1#32
  let v684 : BitVec 32 := Scalar.addi v2 c1_i32_647
  let c16_i32_648 : BitVec 32 := 16#32
  let v685 : BitVec 32 := Scalar.remsi v684 c16_i32_648
  let c1_i32_654 : BitVec 32 := 1#32
  let v688 : BitVec 32 := Scalar.muli v685 c1_i32_654
  let v689 : BitVec 32 := Scalar.addi c0_i32_655 v688
  v689.toNat
def k0_dev47 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_659 : BitVec 32 := 2#32
  let v697 : BitVec 32 := Scalar.addi v2 c2_i32_659
  let c16_i32_660 : BitVec 32 := 16#32
  let v698 : BitVec 32 := Scalar.remsi v697 c16_i32_660
  let c1_i32_666 : BitVec 32 := 1#32
  let v701 : BitVec 32 := Scalar.muli v698 c1_i32_666
  let v702 : BitVec 32 := Scalar.addi c0_i32_667 v701
  v702.toNat
def k0_dev48 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_671 : BitVec 32 := 3#32
  let v710 : BitVec 32 := Scalar.addi v2 c3_i32_671
  let c16_i32_672 : BitVec 32 := 16#32
  let v711 : BitVec 32 := Scalar.remsi v710 c16_i32_672
  let c1_i32_678 : BitVec 32 := 1#32
  let v714 : BitVec 32 := Scalar.muli v711 c1_i32_678
  let v715 : BitVec 32 := Scalar.addi c0_i32_679 v714
  v715.toNat
def k0_dev49 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_683 : BitVec 32 := 4#32
  let v723 : BitVec 32 := Scalar.addi v2 c4_i32_683
  let c16_i32_684 : BitVec 32 := 16#32
  let v724 : BitVec 32 := Scalar.remsi v723 c16_i32_684
  let c1_i32_690 : BitVec 32 := 1#32
  let v727 : BitVec 32 := Scalar.muli v724 c1_i32_690
  let v728 : BitVec 32 := Scalar.addi c0_i32_691 v727
  v728.toNat
def k0_dev50 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_695 : BitVec 32 := 5#32
  let v736 : BitVec 32 := Scalar.addi v2 c5_i32_695
  let c16_i32_696 : BitVec 32 := 16#32
  let v737 : BitVec 32 := Scalar.remsi v736 c16_i32_696
  let c1_i32_702 : BitVec 32 := 1#32
  let v740 : BitVec 32 := Scalar.muli v737 c1_i32_702
  let v741 : BitVec 32 := Scalar.addi c0_i32_703 v740
  v741.toNat
def k0_dev51 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_707 : BitVec 32 := 6#32
  let v749 : BitVec 32 := Scalar.addi v2 c6_i32_707
  let c16_i32_708 : BitVec 32 := 16#32
  let v750 : BitVec 32 := Scalar.remsi v749 c16_i32_708
  let c1_i32_714 : BitVec 32 := 1#32
  let v753 : BitVec 32 := Scalar.muli v750 c1_i32_714
  let v754 : BitVec 32 := Scalar.addi c0_i32_715 v753
  v754.toNat
def k0_dev52 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_719 : BitVec 32 := 7#32
  let v762 : BitVec 32 := Scalar.addi v2 c7_i32_719
  let c16_i32_720 : BitVec 32 := 16#32
  let v763 : BitVec 32 := Scalar.remsi v762 c16_i32_720
  let c1_i32_726 : BitVec 32 := 1#32
  let v766 : BitVec 32 := Scalar.muli v763 c1_i32_726
  let v767 : BitVec 32 := Scalar.addi c0_i32_727 v766
  v767.toNat
def k0_dev53 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_731 : BitVec 32 := 8#32
  let v775 : BitVec 32 := Scalar.addi v2 c8_i32_731
  let c16_i32_732 : BitVec 32 := 16#32
  let v776 : BitVec 32 := Scalar.remsi v775 c16_i32_732
  let c1_i32_738 : BitVec 32 := 1#32
  let v779 : BitVec 32 := Scalar.muli v776 c1_i32_738
  let v780 : BitVec 32 := Scalar.addi c0_i32_739 v779
  v780.toNat
def k0_dev54 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_743 : BitVec 32 := 9#32
  let v788 : BitVec 32 := Scalar.addi v2 c9_i32_743
  let c16_i32_744 : BitVec 32 := 16#32
  let v789 : BitVec 32 := Scalar.remsi v788 c16_i32_744
  let c1_i32_750 : BitVec 32 := 1#32
  let v792 : BitVec 32 := Scalar.muli v789 c1_i32_750
  let v793 : BitVec 32 := Scalar.addi c0_i32_751 v792
  v793.toNat
def k0_dev55 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_755 : BitVec 32 := 10#32
  let v801 : BitVec 32 := Scalar.addi v2 c10_i32_755
  let c16_i32_756 : BitVec 32 := 16#32
  let v802 : BitVec 32 := Scalar.remsi v801 c16_i32_756
  let c1_i32_762 : BitVec 32 := 1#32
  let v805 : BitVec 32 := Scalar.muli v802 c1_i32_762
  let v806 : BitVec 32 := Scalar.addi c0_i32_763 v805
  v806.toNat
def k0_dev56 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_767 : BitVec 32 := 11#32
  let v814 : BitVec 32 := Scalar.addi v2 c11_i32_767
  let c16_i32_768 : BitVec 32 := 16#32
  let v815 : BitVec 32 := Scalar.remsi v814 c16_i32_768
  let c1_i32_774 : BitVec 32 := 1#32
  let v818 : BitVec 32 := Scalar.muli v815 c1_i32_774
  let v819 : BitVec 32 := Scalar.addi c0_i32_775 v818
  v819.toNat
def k0_dev57 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_779 : BitVec 32 := 12#32
  let v827 : BitVec 32 := Scalar.addi v2 c12_i32_779
  let c16_i32_780 : BitVec 32 := 16#32
  let v828 : BitVec 32 := Scalar.remsi v827 c16_i32_780
  let c1_i32_786 : BitVec 32 := 1#32
  let v831 : BitVec 32 := Scalar.muli v828 c1_i32_786
  let v832 : BitVec 32 := Scalar.addi c0_i32_787 v831
  v832.toNat
def k0_dev58 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_791 : BitVec 32 := 13#32
  let v840 : BitVec 32 := Scalar.addi v2 c13_i32_791
  let c16_i32_792 : BitVec 32 := 16#32
  let v841 : BitVec 32 := Scalar.remsi v840 c16_i32_792
  let c1_i32_798 : BitVec 32 := 1#32
  let v844 : BitVec 32 := Scalar.muli v841 c1_i32_798
  let v845 : BitVec 32 := Scalar.addi c0_i32_799 v844
  v845.toNat
def k0_dev59 (d0 : Dev nD) : Nat :=
  let c0_i32_811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_803 : BitVec 32 := 14#32
  let v853 : BitVec 32 := Scalar.addi v2 c14_i32_803
  let c16_i32_804 : BitVec 32 := 16#32
  let v854 : BitVec 32 := Scalar.remsi v853 c16_i32_804
  let c1_i32_810 : BitVec 32 := 1#32
  let v857 : BitVec 32 := Scalar.muli v854 c1_i32_810
  let v858 : BitVec 32 := Scalar.addi c0_i32_811 v857
  v858.toNat
def k0_dev60 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_815 : BitVec 32 := 15#32
  let v866 : BitVec 32 := Scalar.addi v2 c15_i32_815
  let c16_i32_816 : BitVec 32 := 16#32
  let v867 : BitVec 32 := Scalar.remsi v866 c16_i32_816
  let c1_i32_822 : BitVec 32 := 1#32
  let v870 : BitVec 32 := Scalar.muli v867 c1_i32_822
  let v871 : BitVec 32 := Scalar.addi c0_i32_823 v870
  v871.toNat
def k0_off12 (d0 : Dev nD) (c1_i32_830 : BitVec 32) : Fin 4 → Nat :=
  let c1_i32_832 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v884 : BitVec 32 := Scalar.addi v2 c1_i32_830
  let c16_i32_831 : BitVec 32 := 16#32
  let v885 : BitVec 32 := Scalar.remsi v884 c16_i32_831
  let c0_i32_837 : BitVec 32 := 0#32
  let c0_i32_838 : BitVec 32 := 0#32
  ![1, v885.toNat, 0, 0]
def k0_off13 (d0 : Dev nD) (c1_i32_830 : BitVec 32) : Fin 4 → Nat :=
  let c1 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v884 : BitVec 32 := Scalar.addi v2 c1_i32_830
  let c16_i32_831 : BitVec 32 := 16#32
  let v885 : BitVec 32 := Scalar.remsi v884 c16_i32_831
  let v893 : Index := Scalar.indexCast v885
  let c0_841 : Index := 0#32
  let c0_842 : Index := 0#32
  ![1, v893.toNat, 0, 0]
def k0_dev61 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1048 : BitVec 32 := 1#32
  let v1104 : BitVec 32 := Scalar.addi v2 c1_i32_1048
  let c16_i32_1049 : BitVec 32 := 16#32
  let v1105 : BitVec 32 := Scalar.remsi v1104 c16_i32_1049
  let c1_i32_1055 : BitVec 32 := 1#32
  let v1108 : BitVec 32 := Scalar.muli v1105 c1_i32_1055
  let v1109 : BitVec 32 := Scalar.addi c0_i32_1056 v1108
  v1109.toNat
def k0_dev62 (d0 : Dev nD) : Nat :=
  let c0_i32_1068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1060 : BitVec 32 := 2#32
  let v1117 : BitVec 32 := Scalar.addi v2 c2_i32_1060
  let c16_i32_1061 : BitVec 32 := 16#32
  let v1118 : BitVec 32 := Scalar.remsi v1117 c16_i32_1061
  let c1_i32_1067 : BitVec 32 := 1#32
  let v1121 : BitVec 32 := Scalar.muli v1118 c1_i32_1067
  let v1122 : BitVec 32 := Scalar.addi c0_i32_1068 v1121
  v1122.toNat
def k0_dev63 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1072 : BitVec 32 := 3#32
  let v1130 : BitVec 32 := Scalar.addi v2 c3_i32_1072
  let c16_i32_1073 : BitVec 32 := 16#32
  let v1131 : BitVec 32 := Scalar.remsi v1130 c16_i32_1073
  let c1_i32_1079 : BitVec 32 := 1#32
  let v1134 : BitVec 32 := Scalar.muli v1131 c1_i32_1079
  let v1135 : BitVec 32 := Scalar.addi c0_i32_1080 v1134
  v1135.toNat
def k0_dev64 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1084 : BitVec 32 := 4#32
  let v1143 : BitVec 32 := Scalar.addi v2 c4_i32_1084
  let c16_i32_1085 : BitVec 32 := 16#32
  let v1144 : BitVec 32 := Scalar.remsi v1143 c16_i32_1085
  let c1_i32_1091 : BitVec 32 := 1#32
  let v1147 : BitVec 32 := Scalar.muli v1144 c1_i32_1091
  let v1148 : BitVec 32 := Scalar.addi c0_i32_1092 v1147
  v1148.toNat
def k0_dev65 (d0 : Dev nD) : Nat :=
  let c0_i32_1104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1096 : BitVec 32 := 5#32
  let v1156 : BitVec 32 := Scalar.addi v2 c5_i32_1096
  let c16_i32_1097 : BitVec 32 := 16#32
  let v1157 : BitVec 32 := Scalar.remsi v1156 c16_i32_1097
  let c1_i32_1103 : BitVec 32 := 1#32
  let v1160 : BitVec 32 := Scalar.muli v1157 c1_i32_1103
  let v1161 : BitVec 32 := Scalar.addi c0_i32_1104 v1160
  v1161.toNat
def k0_dev66 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1108 : BitVec 32 := 6#32
  let v1169 : BitVec 32 := Scalar.addi v2 c6_i32_1108
  let c16_i32_1109 : BitVec 32 := 16#32
  let v1170 : BitVec 32 := Scalar.remsi v1169 c16_i32_1109
  let c1_i32_1115 : BitVec 32 := 1#32
  let v1173 : BitVec 32 := Scalar.muli v1170 c1_i32_1115
  let v1174 : BitVec 32 := Scalar.addi c0_i32_1116 v1173
  v1174.toNat
def k0_dev67 (d0 : Dev nD) : Nat :=
  let c0_i32_1128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1120 : BitVec 32 := 7#32
  let v1182 : BitVec 32 := Scalar.addi v2 c7_i32_1120
  let c16_i32_1121 : BitVec 32 := 16#32
  let v1183 : BitVec 32 := Scalar.remsi v1182 c16_i32_1121
  let c1_i32_1127 : BitVec 32 := 1#32
  let v1186 : BitVec 32 := Scalar.muli v1183 c1_i32_1127
  let v1187 : BitVec 32 := Scalar.addi c0_i32_1128 v1186
  v1187.toNat
def k0_dev68 (d0 : Dev nD) : Nat :=
  let c0_i32_1140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1132 : BitVec 32 := 8#32
  let v1195 : BitVec 32 := Scalar.addi v2 c8_i32_1132
  let c16_i32_1133 : BitVec 32 := 16#32
  let v1196 : BitVec 32 := Scalar.remsi v1195 c16_i32_1133
  let c1_i32_1139 : BitVec 32 := 1#32
  let v1199 : BitVec 32 := Scalar.muli v1196 c1_i32_1139
  let v1200 : BitVec 32 := Scalar.addi c0_i32_1140 v1199
  v1200.toNat
def k0_dev69 (d0 : Dev nD) : Nat :=
  let c0_i32_1152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1144 : BitVec 32 := 9#32
  let v1208 : BitVec 32 := Scalar.addi v2 c9_i32_1144
  let c16_i32_1145 : BitVec 32 := 16#32
  let v1209 : BitVec 32 := Scalar.remsi v1208 c16_i32_1145
  let c1_i32_1151 : BitVec 32 := 1#32
  let v1212 : BitVec 32 := Scalar.muli v1209 c1_i32_1151
  let v1213 : BitVec 32 := Scalar.addi c0_i32_1152 v1212
  v1213.toNat
def k0_dev70 (d0 : Dev nD) : Nat :=
  let c0_i32_1164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1156 : BitVec 32 := 10#32
  let v1221 : BitVec 32 := Scalar.addi v2 c10_i32_1156
  let c16_i32_1157 : BitVec 32 := 16#32
  let v1222 : BitVec 32 := Scalar.remsi v1221 c16_i32_1157
  let c1_i32_1163 : BitVec 32 := 1#32
  let v1225 : BitVec 32 := Scalar.muli v1222 c1_i32_1163
  let v1226 : BitVec 32 := Scalar.addi c0_i32_1164 v1225
  v1226.toNat
def k0_dev71 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1168 : BitVec 32 := 11#32
  let v1234 : BitVec 32 := Scalar.addi v2 c11_i32_1168
  let c16_i32_1169 : BitVec 32 := 16#32
  let v1235 : BitVec 32 := Scalar.remsi v1234 c16_i32_1169
  let c1_i32_1175 : BitVec 32 := 1#32
  let v1238 : BitVec 32 := Scalar.muli v1235 c1_i32_1175
  let v1239 : BitVec 32 := Scalar.addi c0_i32_1176 v1238
  v1239.toNat
def k0_dev72 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1180 : BitVec 32 := 12#32
  let v1247 : BitVec 32 := Scalar.addi v2 c12_i32_1180
  let c16_i32_1181 : BitVec 32 := 16#32
  let v1248 : BitVec 32 := Scalar.remsi v1247 c16_i32_1181
  let c1_i32_1187 : BitVec 32 := 1#32
  let v1251 : BitVec 32 := Scalar.muli v1248 c1_i32_1187
  let v1252 : BitVec 32 := Scalar.addi c0_i32_1188 v1251
  v1252.toNat
def k0_dev73 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1192 : BitVec 32 := 13#32
  let v1260 : BitVec 32 := Scalar.addi v2 c13_i32_1192
  let c16_i32_1193 : BitVec 32 := 16#32
  let v1261 : BitVec 32 := Scalar.remsi v1260 c16_i32_1193
  let c1_i32_1199 : BitVec 32 := 1#32
  let v1264 : BitVec 32 := Scalar.muli v1261 c1_i32_1199
  let v1265 : BitVec 32 := Scalar.addi c0_i32_1200 v1264
  v1265.toNat
def k0_dev74 (d0 : Dev nD) : Nat :=
  let c0_i32_1212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1204 : BitVec 32 := 14#32
  let v1273 : BitVec 32 := Scalar.addi v2 c14_i32_1204
  let c16_i32_1205 : BitVec 32 := 16#32
  let v1274 : BitVec 32 := Scalar.remsi v1273 c16_i32_1205
  let c1_i32_1211 : BitVec 32 := 1#32
  let v1277 : BitVec 32 := Scalar.muli v1274 c1_i32_1211
  let v1278 : BitVec 32 := Scalar.addi c0_i32_1212 v1277
  v1278.toNat
def k0_dev75 (d0 : Dev nD) : Nat :=
  let c0_i32_1224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1216 : BitVec 32 := 15#32
  let v1286 : BitVec 32 := Scalar.addi v2 c15_i32_1216
  let c16_i32_1217 : BitVec 32 := 16#32
  let v1287 : BitVec 32 := Scalar.remsi v1286 c16_i32_1217
  let c1_i32_1223 : BitVec 32 := 1#32
  let v1290 : BitVec 32 := Scalar.muli v1287 c1_i32_1223
  let v1291 : BitVec 32 := Scalar.addi c0_i32_1224 v1290
  v1291.toNat
abbrev stage0_0 : Fin 1 → Memref sig .tc .vmem S1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x256x256 : Shape := ⟨3, ![16, 256, 256]⟩
abbrev S_ : Shape := ⟨0, ![]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S16x256x256, .bf16⟩
  | .hbm, ⟨1, _⟩ => ⟨S16x256x256, .f32⟩
  | .hbm, ⟨2, _⟩ => ⟨S_, .f32⟩
  | .hbm, ⟨3, _⟩ => ⟨S256x256, .f32⟩
  | .hbm, ⟨4, _⟩ => ⟨S256x256, .bf16⟩
  | _, _ => ⟨S16x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Folded.lean ====
/- The kernel's body as loops: the printed straight-line text is, definitionally, the program below, whose repeated
   stretches are folds over the distance `r + 1` to the peer and take the half `h` as an argument. -/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-- The distances at which the kernel's loops meet their peers, `r` standing for distance `r + 1`. -/
def dists : List (Fin 15) := [0, 1, 2, 3, 4, 5, 6, 7, 8, 9, 10, 11, 12, 13, 14]

/-- The distance as the word the kernel adds. -/
abbrev kw (r : Fin 15) : BitVec 32 := BitVec.ofNat 32 (1 + r.val)
/-- The row offset of a half as the word the kernel adds. -/
abbrev hw (h : Fin 2) : BitVec 32 := BitVec.ofNat 32 (8 * h.val)

/-- The device at distance `k`, computed as the kernel computes it. -/
def devWord (d : Dev nD) (k : BitVec 32) : Nat :=
  (Scalar.addi 0#32 (Scalar.muli (Scalar.remsi (Scalar.addi (Scalar.remsi (Scalar.divsi (Dev.word d) 1#32) 16#32) k) 16#32) 1#32)).toNat
theorem devWord_eq : ∀ (d : Dev nD) (r : Fin 15), devWord d (kw r) = (d.val + r.val + 1) % 16 := by decide +kernel

/-- The device `r + 1` places after `d`. -/
def rot (d : Dev nD) (r : Fin 15) : Dev nD := ⟨(d.val + r.val + 1) % 16, Nat.mod_lt _ (by decide)⟩
theorem devWord_lt (d : Dev nD) (r : Fin 15) : devWord d (kw r) < nD := by rw [devWord_eq]; exact Nat.mod_lt _ (by decide)
/-- The peer at distance `r + 1`, as the kernel addresses it. -/
def peerW (d : Dev nD) (r : Fin 15) : Dev nD := ⟨devWord d (kw r), devWord_lt d r⟩
theorem peerW_eq (d : Dev nD) (r : Fin 15) : peerW d r = rot d r := Fin.ext (devWord_eq d r)

/-! ## The offsets, with the half as an argument -/

def offPeer (h : Fin 2) (d : Dev nD) (r : Fin 15) : Fin 2 → Nat := match h with | 0 => k0_off1 d (kw r) | 1 => k0_off5 d (kw r)
theorem offPeer_eq (h : Fin 2) (d : Dev nD) (r : Fin 15) : offPeer h d r = ![h.val, (rot d r).val] := match h with
  | 0 => k0_off1_eq d r
  | 1 => k0_off5_eq d r
theorem offPeer_inb (h : Fin 2) (d : Dev nD) (r : Fin 15) : ∀ a, offPeer h d r a + S1x1.size a ≤ S2x16.size a := match h with
  | 0 => k0_off1_inb d r
  | 1 => k0_off5_inb d r
def offMe (h : Fin 2) (d : Dev nD) : Fin 2 → Nat := match h with | 0 => k0_off2 d | 1 => k0_off6 d
theorem offMe_eq (h : Fin 2) (d : Dev nD) : offMe h d = ![h.val, d.val] := match h with
  | 0 => k0_off2_eq d
  | 1 => k0_off6_eq d
theorem offMe_inb (h : Fin 2) (d : Dev nD) : ∀ a, offMe h d a + S1x1.size a ≤ S2x16.size a := match h with
  | 0 => k0_off2_inb d
  | 1 => k0_off6_inb d
def offSlotMe (h : Fin 2) (d : Dev nD) : Fin 4 → Nat := match h with | 0 => k0_off3 d | 1 => k0_off7 d
theorem offSlotMe_eq (h : Fin 2) (d : Dev nD) : offSlotMe h d = ![h.val, d.val, 0, 0] := match h with
  | 0 => k0_off3_eq d
  | 1 => k0_off7_eq d
theorem offSlotMe_inb (h : Fin 2) (d : Dev nD) : ∀ a, offSlotMe h d a + S1x1x8x256.size a ≤ S2x16x8x256.size a := match h with
  | 0 => k0_off3_inb d
  | 1 => k0_off7_inb d
def offSlotPeer (h : Fin 2) (d : Dev nD) (r : Fin 15) : Fin 4 → Nat := match h with | 0 => k0_off9 d (kw r) | 1 => k0_off12 d (kw r)
theorem offSlotPeer_eq (h : Fin 2) (d : Dev nD) (r : Fin 15) : offSlotPeer h d r = ![h.val, (rot d r).val, 0, 0] := match h with
  | 0 => k0_off9_eq d r
  | 1 => k0_off12_eq d r
theorem offSlotPeer_inb (h : Fin 2) (d : Dev nD) (r : Fin 15) : ∀ a, offSlotPeer h d r a + S1x1x8x256.size a ≤ S2x16x8x256.size a := match h with
  | 0 => k0_off9_inb d r
  | 1 => k0_off12_inb d r
def offLoadPeer (h : Fin 2) (d : Dev nD) (r : Fin 15) : Fin 4 → Nat := match h with | 0 => k0_off10 d (kw r) | 1 => k0_off13 d (kw r)
theorem offLoadPeer_eq (h : Fin 2) (d : Dev nD) (r : Fin 15) : offLoadPeer h d r = ![h.val, (rot d r).val, 0, 0] := match h with
  | 0 => k0_off10_eq d r
  | 1 => k0_off13_eq d r
theorem offLoadPeer_inb (h : Fin 2) (d : Dev nD) (r : Fin 15) : ∀ a, offLoadPeer h d r a + S1x1x8x256.size a ≤ S2x16x8x256.size a := match h with
  | 0 => k0_off10_inb d r
  | 1 => k0_off13_inb d r
def offHalf (h : Fin 2) : Fin 3 → Nat := match h with | 0 => ![0, 0, 0] | 1 => ![1, 0, 0]
theorem offHalf_eq (h : Fin 2) : offHalf h = ![h.val, 0, 0] := match h with
  | 0 => rfl
  | 1 => rfl
theorem offHalf_inb (h : Fin 2) : ∀ a, offHalf h a + S1x8x256.size a ≤ S2x8x256.size a := match h with
  | 0 => inb_S2x8x256_S1x8x256_0_0_0
  | 1 => inb_S2x8x256_S1x8x256_1_0_0
theorem offSlotMe_words (h : Fin 2) (d : Dev nD) : (Rect.unit (s := S2x16x8x256) (offSlotMe h d) S1x1x8x256.size (offSlotMe_inb h d)).WholeWords (EltTy.packing .bf16) := match h with
  | 0 => k0_off3_wordsbf16 d
  | 1 => k0_off7_wordsbf16 d
theorem offSlotPeer_words (h : Fin 2) (d : Dev nD) (r : Fin 15) : (Rect.unit (s := S2x16x8x256) (offSlotPeer h d r) S1x1x8x256.size (offSlotPeer_inb h d r)).WholeWords (EltTy.packing .bf16) := match h with
  | 0 => k0_off9_wordsbf16 d r
  | 1 => k0_off12_wordsbf16 d r
theorem offHalf_words (h : Fin 2) : (Rect.unit (s := S2x8x256) (offHalf h) S1x8x256.size (offHalf_inb h)).WholeWords (EltTy.packing .bf16) := match h with
  | 0 => wordsbf16_S2x8x256_S1x8x256_0_0_0
  | 1 => wordsbf16_S2x8x256_S1x8x256_1_0_0
theorem offHalf_packed (h : Fin 2) : (Rect.unit (s := S2x8x256) (offHalf h) S1x8x256.size (offHalf_inb h)).PackedRows (EltTy.packing .bf16) := match h with
  | 0 => packedbf16_S2x8x256_S1x8x256_0_0_0
  | 1 => packedbf16_S2x8x256_S1x8x256_1_0_0

/-! ## The views -/

section Views

variable (arg1 : Memref sig .tc .vmem S256x256 .bf16) (arg2 : Memref sig .tc .vmem S256x256 .bf16)
  (arg3 : Memref sig .tc .vmem S2x16x8x256 .bf16) (arg4 : Memref sig .tc .vmem S2x8x256 .bf16)

/-- One semaphore of a table of them. -/
abbrev semAt (A : DmaSems sig S2x16) (o : Fin 2 → Nat) (ho : ∀ a, o a + S1x1.size a ≤ S2x16.size a) : DmaSem sig :=
  ((A.slice (Rect.unit (s := S2x16) o S1x1.size ho)).squeeze S_ squeezes_S1x1_S_).sem
/-- Eight rows of a buffer of 256 rows. -/
abbrev rowsAt (m : Memref sig .tc .vmem S256x256 .bf16) (o : Fin 2 → Nat) (ho : ∀ a, o a + S8x256.size a ≤ S256x256.size a) : Memref sig .tc .vmem S8x256 .bf16 :=
  m.slice (Rect.unit (s := S256x256) o S8x256.size ho) (fun _ => rfl)
/-- One landing slot. -/
abbrev slotAt (m : Memref sig .tc .vmem S2x16x8x256 .bf16) (o : Fin 4 → Nat) (ho : ∀ a, o a + S1x1x8x256.size a ≤ S2x16x8x256.size a) : Memref sig .tc .vmem S8x256 .bf16 :=
  (m.slice (Rect.unit (s := S2x16x8x256) o S1x1x8x256.size ho) (fun _ => rfl)).squeeze S8x256 squeezes_S1x1x8x256_S8x256
/-- One half of the buffer of reduced rows. -/
abbrev halfAt (m : Memref sig .tc .vmem S2x8x256 .bf16) (o : Fin 3 → Nat) (ho : ∀ a, o a + S1x8x256.size a ≤ S2x8x256.size a) : Memref sig .tc .vmem S8x256 .bf16 :=
  (m.slice (Rect.unit (s := S2x8x256) o S1x8x256.size ho) (fun _ => rfl)).squeeze S8x256 squeezes_S1x8x256_S8x256

end Views

/-! ## The program -/

/-- Programs of a kernel body. -/
abbrev BProg (F : FTy → Type) : Type 1 := Prog (TpuEff nD τ sig (Elt F) Λ₀ .tc) PUnit

/-- A loop over the distances that carries nothing. -/
def each (f : Fin 15 → BProg F → BProg F) (l : List (Fin 15)) (k : BProg F) : BProg F := l.foldr f k
/-- A loop over the distances that carries a value. -/
def carry {A : Type} (f : Fin 15 → A → (A → BProg F) → BProg F) : List (Fin 15) → A → (A → BProg F) → BProg F
  | [], a, k => k a
  | r :: l, a, k => f r a fun a' => carry f l a' k

section Body

variable (arg0 : Memref sig .tc .vmem S1x256x256 .bf16) (harg0 : arg0.IsWhole)
  (arg1 : Memref sig .tc .vmem S256x256 .bf16) (harg1 : arg1.IsWhole) (arg2 : Memref sig .tc .vmem S256x256 .bf16) (harg2 : arg2.IsWhole)
  (arg3 : Memref sig .tc .vmem S2x16x8x256 .bf16) (harg3 : arg3.IsWhole) (arg4 : Memref sig .tc .vmem S2x8x256 .bf16) (harg4 : arg4.IsWhole)
  (arg5 arg6 arg7 arg8 : DmaSems sig S2x16)

/-- Announce to the peer at this distance that this device has entered. -/
def opAnnounce (d : Dev nD) (r : Fin 15) (k : BProg F) : BProg F :=
  .op (.semSignal (Dev.tc (peerW d r)) (sig.barrier 0 rfl) ((1#32 : BitVec 32).toNat)) fun _ => k
/-- Send the peer at this distance its slab of this device's addend. -/
def opScatter (h : Fin 2) (d : Dev nD) (r : Fin 15) (k : BProg F) : BProg F :=
  .op (.enqueueDma (rowsAt arg2 (k0_off4 d (kw r) (hw h)) (k0_off4_inb d r h))
    (.remote (Dev.tc (peerW d r)) (slotAt arg3 (offSlotMe h d) (offSlotMe_inb h d)) (.dma (semAt arg5 (offPeer h d r) (offPeer_inb h d r))))
    (.dma (semAt arg6 (offMe h d) (offMe_inb h d)))
    (harg2.wordExact_slice rfl _ (k0_off4_wordsbf16 d r h)) ((harg3.wordExact_slice rfl _ (offSlotMe_words h d)).reshape _ _) ⟨⟨rfl, Or.inl rfl⟩, trivial⟩) fun _ => k
/-- One addend taken into the accumulator. -/
def addIn (a : FVec F S8x256 .f32) (v : Vec F S1x1x8x256 .bf16) : FVec F S8x256 .f32 :=
  addf a (extf .f32 (shapeCast S8x256 v shapeCasts_S1x1x8x256_S8x256) bitsLt_bf16_f32)
/-- Wait for the slab of the peer at this distance and add it. -/
def opGather (h : Fin 2) (d : Dev nD) (r : Fin 15) (a : FVec F S8x256 .f32) (k : FVec F S8x256 .f32 → BProg F) : BProg F :=
  .op (.waitDma2 (semAt arg6 (offPeer h d r) (offPeer_inb h d r)) (rowsAt arg2 ![0, 0] inb_S256x256_S8x256_0_0)
      (slotAt arg3 (offSlotPeer h d r) (offSlotPeer_inb h d r)) (harg2.wordExact_slice rfl _ wordsbf16_S256x256_S8x256_0_0)
      ((harg3.wordExact_slice rfl _ (offSlotPeer_words h d r)).reshape _ _)) fun _ =>
  .op (.load arg3 (Rect.unit (s := S2x16x8x256) (offLoadPeer h d r) S1x1x8x256.size (offLoadPeer_inb h d r)).toLoadRect (View.loadsAt_vmem h_S1x1x8x256)) fun (v : Vec F S1x1x8x256 .bf16) =>
  k (addIn a v)
/-- Send the peer at this distance this device's reduced rows. -/
def opBroadcast (h : Fin 2) (d : Dev nD) (r : Fin 15) (k : BProg F) : BProg F :=
  .op (.enqueueDma (halfAt arg4 (offHalf h) (offHalf_inb h))
    (.remote (Dev.tc (peerW d r)) (rowsAt arg1 (k0_off11 d (hw h)) (k0_off11_inb d h)) (.dma (semAt arg7 (offPeer h d r) (offPeer_inb h d r))))
    (.dma (semAt arg8 (offMe h d) (offMe_inb h d)))
    ((harg4.wordExact_slice rfl _ (offHalf_words h)).reshape _ _) (harg1.wordExact_slice rfl _ (k0_off11_wordsbf16 d h)) ⟨⟨rfl, Or.inl rfl⟩, trivial⟩) fun _ => k
/-- Wait for the reduced rows of the peer at this distance. -/
def opCollect (h : Fin 2) (d : Dev nD) (r : Fin 15) (k : BProg F) : BProg F :=
  .op (.waitDma2 (semAt arg8 (offPeer h d r) (offPeer_inb h d r)) (halfAt arg4 (offHalf h) (offHalf_inb h))
      (rowsAt arg1 (k0_off4 d (kw r) (hw h)) (k0_off4_inb d r h)) ((harg4.wordExact_slice rfl _ (offHalf_words h)).reshape _ _)
      (harg1.wordExact_slice rfl _ (k0_off4_wordsbf16 d r h))) fun _ => k
/-- Wait until the slab sent to the peer at this distance has left. -/
def opDrainScatter (h : Fin 2) (d : Dev nD) (r : Fin 15) (k : BProg F) : BProg F :=
  .op (.waitDma2 (semAt arg5 (offPeer h d r) (offPeer_inb h d r)) (slotAt arg3 (offSlotMe h d) (offSlotMe_inb h d))
      (rowsAt arg2 (k0_off4 d (kw r) (hw h)) (k0_off4_inb d r h)) ((harg3.wordExact_slice rfl _ (offSlotMe_words h d)).reshape _ _)
      (harg2.wordExact_slice rfl _ (k0_off4_wordsbf16 d r h))) fun _ => k
/-- Wait until the reduced rows sent to the peer at this distance have left. -/
def opDrainBroadcast (h : Fin 2) (d : Dev nD) (r : Fin 15) (k : BProg F) : BProg F :=
  .op (.waitDma2 (semAt arg7 (offPeer h d r) (offPeer_inb h d r)) (rowsAt arg1 (k0_off11 d (hw h)) (k0_off11_inb d h))
      (halfAt arg4 (offHalf h) (offHalf_inb h)) (harg1.wordExact_slice rfl _ (k0_off11_wordsbf16 d h))
      ((harg4.wordExact_slice rfl _ (offHalf_words h)).reshape _ _)) fun _ => k

/-- Store the reduced rows in the buffer they are sent from and among the rows of the result. -/
def opPublish (og : Fin 3 → Nat) (hog : ∀ a, og a + S1x8x256.size a ≤ S2x8x256.size a) (oo : Fin 2 → Nat) (hoo : ∀ a, oo a + S8x256.size a ≤ S256x256.size a)
    (pg : (Rect.unit (s := S2x8x256) og S1x8x256.size hog).PackedRows (EltTy.packing .bf16))
    (po : (Rect.unit (s := S256x256) oo S8x256.size hoo).PackedRows (EltTy.packing .bf16)) (t : FVec F S8x256 .bf16) (k : BProg F) : BProg F :=
  .op (.load arg4 (Rect.unit (s := S2x8x256) og S1x8x256.size hog).toLoadRect (View.loadsAt_vmem h_S1x8x256)) fun _ =>
  .op (.store arg4 (Rect.unit (s := S2x8x256) og S1x8x256.size hog) (shapeCast S1x8x256 t shapeCasts_S8x256_S1x8x256) Finset.univ
      (View.stores_vmem h_S1x8x256 (harg4.storeExact_slice rfl _ pg) (fun _ => rfl)) (.inl rfl)) fun _ =>
  .op (.load arg4 (Rect.unit (s := S2x8x256) og S1x8x256.size hog).toLoadRect (View.loadsAt_vmem h_S1x8x256)) fun (w : Vec F S1x8x256 .bf16) =>
  .op (.load arg1 (Rect.unit (s := S256x256) oo S8x256.size hoo).toLoadRect (View.loadsAt_vmem h_S8x256)) fun _ =>
  .op (.store arg1 (Rect.unit (s := S256x256) oo S8x256.size hoo) (shapeCast S8x256 w shapeCasts_S1x8x256_S8x256) Finset.univ
      (View.stores_vmem h_S8x256 (harg1.storeExact_slice rfl _ po) (fun _ => rfl)) (.inl rfl)) fun _ =>
  k

/-- Reduce one half of this device's rows and send the reduced rows to every peer. -/
def opReduce (h : Fin 2) (d : Dev nD) (k : BProg F) : BProg F :=
  .op (.load arg2 (Rect.unit (s := S256x256) (k0_off8 d (hw h)) S8x256.size (k0_off8_inb d h)).toLoadRect (View.loadsAt_vmem h_S8x256)) fun (v : Vec F S8x256 .bf16) =>
  carry (opGather arg2 harg2 arg3 harg3 arg6 h d) dists (extf .f32 v bitsLt_bf16_f32) fun a =>
  opPublish arg1 harg1 arg4 harg4 (offHalf h) (offHalf_inb h) (k0_off8 d (hw h)) (k0_off8_inb d h) (offHalf_packed h) (k0_off8_packedbf16 d h)
    (truncf .bf16 a bitsLt_bf16_f32) <|
  each (opBroadcast arg1 harg1 arg4 harg4 arg7 arg8 h d) dists k

/-- The waits that end the kernel. -/
def opFinish (d : Dev nD) : BProg F :=
  each (opCollect arg1 harg1 arg4 harg4 arg8 0 d) dists <|
  each (opCollect arg1 harg1 arg4 harg4 arg8 1 d) dists <|
  each (opDrainScatter arg2 harg2 arg3 harg3 arg5 0 d) dists <|
  each (opDrainScatter arg2 harg2 arg3 harg3 arg5 1 d) dists <|
  each (opDrainBroadcast arg1 harg1 arg4 harg4 arg7 0 d) dists <|
  each (opDrainBroadcast arg1 harg1 arg4 harg4 arg7 1 d) dists <|
  .ret ⟨⟩

/-- The whole body. -/
def folded : BProg F :=
  .op .deviceId fun d =>
  each (opAnnounce d) dists <|
  .op (.load arg0 (Rect.unit (s := S1x256x256) ![0, 0, 0] S1x256x256.size inb_S1x256x256_S1x256x256_0_0_0).toLoadRect (View.loadsAt_vmem h_S1x256x256)) fun (v : Vec F S1x256x256 .bf16) =>
  .op (.load arg2 (Rect.unit (s := S256x256) ![0, 0] S256x256.size inb_S256x256_S256x256_0_0).toLoadRect (View.loadsAt_vmem h_S256x256)) fun _ =>
  .op (.store arg2 (Rect.unit (s := S256x256) ![0, 0] S256x256.size inb_S256x256_S256x256_0_0) (k0_pay1 v) Finset.univ
      (View.stores_vmem h_S256x256 (harg2.storeExact_slice rfl _ packedbf16_S256x256_S256x256_0_0) (fun _ => rfl)) (.inl rfl)) fun _ =>
  .op (.semWait (sig.barrier 0 rfl) ((15#32 : BitVec 32).toNat)) fun _ =>
  each (opScatter arg2 harg2 arg3 harg3 arg5 arg6 0 d) dists <|
  each (opScatter arg2 harg2 arg3 harg3 arg5 arg6 1 d) dists <|
  opReduce arg1 harg1 arg2 harg2 arg3 harg3 arg4 harg4 arg6 arg7 arg8 0 d <|
  opReduce arg1 harg1 arg2 harg2 arg3 harg3 arg4 harg4 arg6 arg7 arg8 1 d <|
  opFinish arg1 harg1 arg2 harg2 arg3 harg3 arg4 harg4 arg5 arg7 arg8 d

set_option maxRecDepth 100000 in
/-- The printed body is the folded one: by definitional unfolding. -/
theorem body_folded :
    cc0_body (F := F) arg0 harg0 arg1 harg1 arg2 harg2 arg3 harg3 arg4 harg4 arg5 arg6 arg7 arg8
      = folded arg0 arg1 harg1 arg2 harg2 arg3 harg3 arg4 harg4 arg5 arg6 arg7 arg8 := by
  rw [cc0_body_eq_skeleton]
  chain_rfl

end Body

end Cert.AllReduce

end
-- ==== Proof.Protocol.lean ====
/- The protocol of the all-reduce: its cells, what each landing hands over, the schedule, the levels and what each device
   owes at launch. -/
module

public import proofs.«01_k».proof.Proof.Folded
public import Idealize.ShloMosaic.Lib.ShareLeaves
public import Idealize.ShloMosaic.Lib.Pipeline.BigSepL

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's copy, and this protocol's, whose duties are named by the device that pays or is paid -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Cells -/

abbrev barS : Sem sig := sig.barrier 0 rfl
/-- Semaphore `(h, s)` of table `a`: 0 and 2 tell the sender that its two kinds of transfer have left, 1 and 3 tell the
    receiver that they have landed. -/
def dsem (a : Fin 4) (h : Fin 2) (s : Dev nD) : DmaSem sig := ⟨2 + 32 * a.val + 16 * h.val + s.val, by
  have h1 := a.isLt; have h2 := h.isLt; have h3 : s.val < 16 := s.isLt
  show _ < 130
  omega⟩
abbrev barCell (c : Dev nD) : GSem nD τ sig := ((c : Thread nD τ), .reg barS)
abbrev dcell (c : Dev nD) (a : Fin 4) (h : Fin 2) (s : Dev nD) : GSem nD τ sig := ((c : Thread nD τ), .dma (dsem a h s))

/-- Table `a`. -/
def table (a : Fin 4) : DmaSems sig S2x16 := match a with | 0 => cc0_scratch3 | 1 => cc0_scratch4 | 2 => cc0_scratch5 | 3 => cc0_scratch6
theorem semAt_lit : ∀ (a : Fin 4) (h : Fin 2) (s : Dev nD) (ho : ∀ i, (![h.val, s.val] : Fin 2 → Nat) i + S1x1.size i ≤ S2x16.size i),
    (semAt (table a) ![h.val, s.val] ho).val = (dsem a h s).val := by decide +kernel
theorem semAt_eq (a : Fin 4) (h : Fin 2) (s : Dev nD) {o : Fin 2 → Nat} (e : o = ![h.val, s.val]) (ho) : semAt (table a) o ho = dsem a h s := by
  subst e; exact Fin.ext (semAt_lit a h s ho)

/-- The table, half and peer a DMA semaphore stands for. -/
def famOf (q : DmaSem sig) : Nat := (q.val - 2) / 32
def halfOf (q : DmaSem sig) : Fin 2 := ⟨(q.val - 2) / 16 % 2, Nat.mod_lt _ (by decide)⟩
def peerOf (q : DmaSem sig) : Dev nD := ⟨(q.val - 2) % 16, Nat.mod_lt _ (by decide)⟩
section Decode
variable (a : Fin 4) (h : Fin 2) (s : Dev nD)
theorem two_le_dsem : 2 ≤ (dsem a h s).val := by show 2 ≤ 2 + 32 * a.val + 16 * h.val + s.val; omega
theorem famOf_dsem : famOf (dsem a h s) = a.val := by
  have h2 := h.isLt; have h3 : s.val < 16 := s.isLt
  show (2 + 32 * a.val + 16 * h.val + s.val - 2) / 32 = a.val
  omega
theorem halfOf_dsem : halfOf (dsem a h s) = h := Fin.ext (by
  have h2 := h.isLt; have h3 : s.val < 16 := s.isLt
  show (2 + 32 * a.val + 16 * h.val + s.val - 2) / 16 % 2 = h.val
  omega)
theorem peerOf_dsem : peerOf (dsem a h s) = s := Fin.ext (by
  have h3 : s.val < 16 := s.isLt
  show (2 + 32 * a.val + 16 * h.val + s.val - 2) % 16 = s.val
  omega)
end Decode

/-- All the cells of one device. -/
abbrev Ix : Type := Option (Fin 4 × Fin 2 × Dev nD)
def csem : Ix → SemLoc sig
  | none => .reg barS
  | some x => .dma (dsem x.1 x.2.1 x.2.2)
def kcell (ck : Dev nD × Ix) : GSem nD τ sig := ((ck.1 : Thread nD τ), csem ck.2)
theorem dsem_inj {x y : Fin 4 × Fin 2 × Dev nD} (e : dsem x.1 x.2.1 x.2.2 = dsem y.1 y.2.1 y.2.2) : x = y := by
  refine Prod.ext (Fin.ext ?_) (Prod.ext ?_ ?_)
  · have := congrArg famOf e; rwa [famOf_dsem, famOf_dsem] at this
  · have := congrArg halfOf e; rwa [halfOf_dsem, halfOf_dsem] at this
  · have := congrArg peerOf e; rwa [peerOf_dsem, peerOf_dsem] at this
theorem csem_injective : Function.Injective csem := by
  rintro (_ | x) (_ | y) e
  · rfl
  · cases e
  · cases e
  · exact congrArg some (dsem_inj (SemLoc.dma.inj e))
theorem kcell_injective : Function.Injective (kcell : Dev nD × Ix → GSem nD τ sig) := by
  rintro ⟨c, x⟩ ⟨c', x'⟩ e
  exact Prod.ext (congrArg (fun g : GSem nD τ sig => g.1.1) e) (csem_injective (congrArg Prod.snd e))

/-! ## Buffers and their parts -/

abbrev xM : Memref sig .tc .vmem S1x256x256 .bf16 := Memref.whole cc0_stg0_0
abbrev oM : Memref sig .tc .vmem S256x256 .bf16 := Memref.whole cc0_stg1_0
abbrev sM : Memref sig .tc .vmem S256x256 .bf16 := Memref.whole cc0_scratch0
abbrev rM : Memref sig .tc .vmem S2x16x8x256 .bf16 := Memref.whole cc0_scratch1
abbrev gM : Memref sig .tc .vmem S2x8x256 .bf16 := Memref.whole cc0_scratch2

theorem rows_inb (s : Dev nD) (h : Fin 2) : ∀ a, (![16 * s.val + 8 * h.val, 0] : Fin 2 → Nat) a + S8x256.size a ≤ S256x256.size a := by
  have h2 := h.isLt; have h3 : s.val < 16 := s.isLt
  intro a
  match a with
  | 0 => show 16 * s.val + 8 * h.val + 8 ≤ 256; omega
  | 1 => show 0 + 256 ≤ 256; omega
theorem slot_inb (h : Fin 2) (s : Dev nD) : ∀ a, (![h.val, s.val, 0, 0] : Fin 4 → Nat) a + S1x1x8x256.size a ≤ S2x16x8x256.size a := by
  have h2 := h.isLt; have h3 : s.val < 16 := s.isLt
  intro a
  match a with
  | 0 => show h.val + 1 ≤ 2; omega
  | 1 => show s.val + 1 ≤ 16; omega
  | 2 => show 0 + 8 ≤ 8; omega
  | 3 => show 0 + 256 ≤ 256; omega
theorem half_inb (h : Fin 2) : ∀ a, (![h.val, 0, 0] : Fin 3 → Nat) a + S1x8x256.size a ≤ S2x8x256.size a := by
  have h2 := h.isLt
  intro a
  match a with
  | 0 => show h.val + 1 ≤ 2; omega
  | 1 => show 0 + 8 ≤ 8; omega
  | 2 => show 0 + 256 ≤ 256; omega

/-- Half `h` of the rows that device `s` reduces, in a buffer of all rows. -/
abbrev rowsV (b : Memref sig .tc .vmem S256x256 .bf16) (h : Fin 2) (s : Dev nD) : Memref sig .tc .vmem S8x256 .bf16 := rowsAt b ![16 * s.val + 8 * h.val, 0] (rows_inb s h)
/-- Where half `h` of what device `s` sends lands. -/
abbrev slotV (h : Fin 2) (s : Dev nD) : Memref sig .tc .vmem S8x256 .bf16 := slotAt rM ![h.val, s.val, 0, 0] (slot_inb h s)
/-- Where half `h` of this device's reduced rows is kept. -/
abbrev halfV (h : Fin 2) : Memref sig .tc .vmem S8x256 .bf16 := halfAt gM ![h.val, 0, 0] (half_inb h)

/-- A transfer's credit: that of eight rows. -/
abbrev N : ℕ := (halfV 0).view.dmaCredit
theorem N_pos : 0 < N := View.dmaCredit_pos _ (by decide)
theorem credit_rows (b : Memref sig .tc .vmem S256x256 .bf16) (o ho) : (rowsAt b o ho).view.dmaCredit = N := rfl
theorem credit_slot (b : Memref sig .tc .vmem S2x16x8x256 .bf16) (o ho) : (slotAt b o ho).view.dmaCredit = N := rfl
theorem credit_half (b : Memref sig .tc .vmem S2x8x256 .bf16) (o ho) : (halfAt b o ho).view.dmaCredit = N := rfl

/-! ## Contents -/

/-- Device `c`'s addend, as it stands in its staging buffer. -/
def xstg (c : Dev nD) : (cc0_stg0_0 : Ref sig .tc).ty.Contents (Elt F) :=
  (win0_0.blk (0 : Fin 1)).view.read (Elt F) ((s₀ m ρ).mem ((c : Thread nD τ).loc main_arg0))
/-- The same without its unit axis: what the send buffer holds. -/
def sendC (c : Dev nD) : (cc0_scratch0 : Ref sig .tc).ty.Contents (Elt F) := k0_pay1 (xstg m ρ c)
/-- Half `h` of the rows of device `s` in device `c`'s addend. -/
def slab (c : Dev nD) (h : Fin 2) (s : Dev nD) : S8x256.Idx → Elt F .bf16 := (rowsV sM h s).view.read (Elt F) (sendC m ρ c)
/-- Half `h` of device `c`'s rows summed in the order in which `c` takes the addends in. -/
def accum (c : Dev nD) (h : Fin 2) (l : List (Fin 15)) (a : FVec F S8x256 .f32) : FVec F S8x256 .f32 :=
  l.foldl (fun a r => addf a (extf .f32 (slab m ρ (rot c r) h c) bitsLt_bf16_f32)) a
/-- Half `h` of device `c`'s reduced rows. -/
def red (c : Dev nD) (h : Fin 2) : S8x256.Idx → Elt F .bf16 :=
  truncf .bf16 (accum m ρ c h dists (extf .f32 (slab m ρ c h c) bitsLt_bf16_f32)) bitsLt_bf16_f32
/-- Where an element of the whole array stands: which device's rows, which half of them, and where in that half. -/
def devIx (j : S256x256.Idx) : Dev nD := ⟨(j 0).val / 16, by have : (j 0).val < 256 := (j 0).isLt; show _ < 16; omega⟩
def halfIx (j : S256x256.Idx) : Fin 2 := ⟨(j 0).val % 16 / 8, by omega⟩
def lowIx (j : S256x256.Idx) : S8x256.Idx := fun a => match a with
  | 0 => ⟨(j 0).val % 8, Nat.mod_lt _ (by decide)⟩
  | 1 => ⟨(j 1).val, (j 1).isLt⟩
/-- All rows: the result. -/
def outC : (cc0_stg1_0 : Ref sig .tc).ty.Contents (Elt F) := fun j : S256x256.Idx => red m ρ (devIx j) (halfIx j) (lowIx j)

/-! ## The schedule -/

/-- A part owned at contents not named. -/
def someOf (c : Dev nD) (v : Memref sig .tc .vmem S8x256 .bf16) : sProp 𝕄 := iprop(∃ X, owns (c : Thread nD τ) v fullShare X)
/-- What device `p` hands `c` on entering: the places `c` writes on `p`. -/
def barPay (c p : Dev nD) : sProp 𝕄 :=
  iprop((someOf p (slotV 0 c) ∗ someOf p (slotV 1 c)) ∗ (someOf p (rowsV oM 0 c) ∗ someOf p (rowsV oM 1 c)))
/-- What a transfer's completion hands device `c`: on the tables of departures the source back, on the tables of
    arrivals the rows written. -/
def xferPay (c : Dev nD) (a : Nat) (h : Fin 2) (p : Dev nD) : sProp 𝕄 := match a with
  | 0 => owns (c : Thread nD τ) (rowsV sM h p) fullShare (slab m ρ c h p)
  | 1 => owns (c : Thread nD τ) (slotV h p) fullShare (slab m ρ p h c)
  | 2 => owns (c : Thread nD τ) (halfV h) (ShareLeaves.leaf 4 fullShare p) (red m ρ c h)
  | _ => owns (c : Thread nD τ) (rowsV oM h p) fullShare (red m ρ p h)

omit [FloatOps F] in
instance someOf_storable (c : Dev nD) (v) : BI.Storable (upEmb : UEmb _ 𝕄) (someOf (F := F) c v) := by unfold someOf; infer_instance
omit [FloatOps F] in
instance barPay_storable (c p : Dev nD) : BI.Storable (upEmb : UEmb _ 𝕄) (barPay (F := F) c p) := by unfold barPay; infer_instance
instance xferPay_storable (c : Dev nD) (a : Nat) (h : Fin 2) (p : Dev nD) : BI.Storable (upEmb : UEmb _ 𝕄) (xferPay (F := F) m ρ c a h p) := by
  unfold xferPay; split <;> infer_instance

def dutiesOf (c : Dev nD) : SemLoc sig → Finset (Dev nD)
  | .reg _ => Finset.univ.erase c
  | .dma q => if peerOf q = c then ∅ else {peerOf q}
def amountOf : SemLoc sig → ℕ
  | .reg _ => 1
  | .dma _ => N
def payOf (c : Dev nD) (p : Dev nD) : SemLoc sig → sProp 𝕄
  | .reg _ => barPay c p
  | .dma q => xferPay m ρ c (famOf q) (halfOf q) p

instance payOf_storable (c p : Dev nD) (s : SemLoc sig) : BI.Storable (upEmb : UEmb _ 𝕄) (payOf (F := F) m ρ c p s) := by
  cases s <;> (unfold payOf; infer_instance)

/-- One round: at a device's barrier cell every other device pays one unit; at a transfer's cell, off the diagonal,
    the transfer pays its credit. -/
def Rd : Rounds.Schedule (GSem nD τ sig) (Dev nD) 𝕄 where
  duties g r := if r = 0 then dutiesOf g.1.1 g.2 else ∅
  unitless _ := False
  amount g _ _ := amountOf g.2
  payload g _ p := payOf m ρ g.1.1 p g.2
  amount_pos g _ _ _ := by
    cases g.2 with
    | reg _ => exact Nat.one_pos
    | dma _ => exact N_pos

instance Rd_payload_storable (g : GSem nD τ sig) (r : ℕ) (d : Dev nD) :
    BI.Storable (upEmb : UEmb _ 𝕄) ((Rd (F := F) m ρ).payload g r d) := payOf_storable m ρ g.1.1 d g.2

section Sched
variable (c : Dev nD) (a : Fin 4) (h : Fin 2) (s : Dev nD)

theorem duties_bar : (Rd (F := F) m ρ).duties (barCell c) 0 = Finset.univ.erase c := rfl
theorem duties_dma (hs : s ≠ c) : (Rd (F := F) m ρ).duties (dcell c a h s) 0 = {s} := by
  show (if peerOf (dsem a h s) = c then ∅ else {peerOf (dsem a h s)}) = _
  rw [peerOf_dsem, if_neg hs]
theorem duties_diag : (Rd (F := F) m ρ).duties (dcell c a h c) 0 = ∅ := by
  show (if peerOf (dsem a h c) = c then ∅ else {peerOf (dsem a h c)}) = _
  rw [peerOf_dsem, if_pos rfl]
theorem duties_later (g : GSem nD τ sig) : ∀ r, 1 ≤ r → (Rd (F := F) m ρ).duties g r = ∅ :=
  fun r hr => if_neg (by omega)
theorem duties_diag_all : ∀ r, 0 ≤ r → (Rd (F := F) m ρ).duties (dcell c a h c) r = ∅ := fun r _ => by
  rcases Nat.eq_zero_or_pos r with rfl | hr
  · exact duties_diag m ρ c a h
  · exact duties_later m ρ _ r hr
theorem amount_dma (r : ℕ) (d : Dev nD) : (Rd (F := F) m ρ).amount (dcell c a h s) r d = N := rfl
theorem payload_bar (p : Dev nD) : (Rd (F := F) m ρ).payload (barCell c) 0 p = barPay c p := rfl
theorem payload_dma (p : Dev nD) : (Rd (F := F) m ρ).payload (dcell c a h s) 0 p = xferPay m ρ c a.val h p := by
  show xferPay m ρ c (famOf (dsem a h s)) (halfOf (dsem a h s)) p = _
  rw [famOf_dsem, halfOf_dsem]
theorem expect_bar : (Rd (F := F) m ρ).expect (barCell c) 0 = 15 := by
  unfold Schedule.expect Schedule.amountOf
  rw [duties_bar]
  refine (Finset.sum_const (1 : ℕ)).trans ?_
  rw [Finset.card_erase_of_mem (Finset.mem_univ c), Finset.card_univ]
  rfl
theorem expect_dma (hs : s ≠ c) : (Rd (F := F) m ρ).expect (dcell c a h s) 0 = N := by
  unfold Schedule.expect Schedule.amountOf; rw [duties_dma m ρ c a h s hs, Finset.sum_singleton, amount_dma]
theorem rest_dma (hs : s ≠ c) : bigSep ((Rd (F := F) m ρ).duties (dcell c a h s) 0 \ ∅) (fun d => (Rd (F := F) m ρ).payload (dcell c a h s) 0 d)
    = xferPay m ρ c a.val h s := by
  rw [Finset.sdiff_empty, duties_dma m ρ c a h s hs, bigSep_singleton, payload_dma]
end Sched

/-! ## The other devices, in the order the loops meet them -/

theorem rot_ne (c : Dev nD) (r : Fin 15) : rot c r ≠ c := fun e => by
  have h1 : c.val < 16 := c.isLt; have h2 := r.isLt
  have h3 : (c.val + r.val + 1) % 16 = c.val := congrArg Fin.val e
  omega
theorem others_nodup : ∀ c : Dev nD, (dists.map (rot c)).Nodup := by decide +kernel
theorem others_eq : ∀ c : Dev nD, (Finset.univ.erase c : Finset (Dev nD)) = (dists.map (rot c)).toFinset := by decide +kernel

/-- A resource for every other device. -/
def ring (c : Dev nD) (Φ : Dev nD → sProp 𝕄) : sProp 𝕄 := bigSepL dists fun r => Φ (rot c r)
omit [FloatOps F] in
theorem bigSep_erase (c : Dev nD) (Φ : Dev nD → sProp 𝕄) : bigSep (Finset.univ.erase c) Φ = ring c Φ := by
  rw [bigSep_eq_bigSepL_of_eq _ (others_eq c) (others_nodup c), bigSepL_map]; rfl
omit [FloatOps F] in
/-- One for each device: this device's and the others'. -/
theorem bigSep_dev (c : Dev nD) (Φ : Dev nD → sProp 𝕄) : bigSep Finset.univ Φ = iprop(Φ c ∗ ring c Φ) := by
  rw [bigSep_univ_at Φ c, bigSep_erase]
omit [FloatOps F] in
theorem bigSep_two (Φ : Fin 2 → sProp 𝕄) : bigSep Finset.univ Φ = iprop(Φ 0 ∗ Φ 1) :=
  bigSep_univ_eq_bigSepL [0, 1] (by decide) (by decide) Φ
theorem rest_bar (c : Dev nD) : bigSep ((Rd (F := F) m ρ).duties (barCell c) 0 \ ∅) (fun d => (Rd (F := F) m ρ).payload (barCell c) 0 d)
    = ring c (fun p => barPay c p) := by
  rw [Finset.sdiff_empty, duties_bar, bigSep_erase]; rfl

/-! ## What a device owes, and the levels -/

/-- The tallies of one loop, for the distances still to come. -/
def dues (f : Fin 15 → CellTallies nD τ sig Unit) : List (Fin 15) → CellTallies nD τ sig Unit
  | [] => 0
  | r :: l => f r + dues f l
theorem dues_cons (f : Fin 15 → CellTallies nD τ sig Unit) (r : Fin 15) (l : List (Fin 15)) (Z : CellTallies nD τ sig Unit) :
    dues f (r :: l) + Z = (dues f l + Z) + f r := by
  show f r + dues f l + Z = _
  rw [add_assoc, add_comm]
theorem dues_nil (f : Fin 15 → CellTallies nD τ sig Unit) (Z : CellTallies nD τ sig Unit) : dues f [] + Z = Z := zero_add Z
/-- One unit on each other device's barrier cell. -/
def fBar (c : Dev nD) (r : Fin 15) : CellTallies nD τ sig Unit := tallyAt (barCell (rot c r)) () 1
/-- One transfer's credit on each other device's table of arrivals. -/
def fX (c : Dev nD) (a : Fin 4) (h : Fin 2) (r : Fin 15) : CellTallies nD τ sig Unit := tallyAt (dcell (rot c r) a h c) () N

def Z4 (c : Dev nD) : CellTallies nD τ sig Unit := dues (fX c 3 1) dists + 0
def Z3 (c : Dev nD) : CellTallies nD τ sig Unit := dues (fX c 3 0) dists + Z4 c
def Z2 (c : Dev nD) : CellTallies nD τ sig Unit := dues (fX c 1 1) dists + Z3 c
def Z1 (c : Dev nD) : CellTallies nD τ sig Unit := dues (fX c 1 0) dists + Z2 c
def O₀ (c : Dev nD) : CellTallies nD τ sig Unit := dues (fBar c) dists + Z1 c

def L (g : GSem nD τ sig) : Finset Unit := if g.1.2 = .tc then {()} else ∅
def lvOf : SemLoc sig → ℕ
  | .reg _ => 1
  | .dma q => if 2 ≤ q.val ∧ famOf q = 1 then 2 else if 2 ≤ q.val ∧ famOf q = 3 then 3 else 0
def lv (g : GSem nD τ sig) (_ : Unit) : ℕ := lvOf g.2
theorem L_of_ne (g : GSem nD τ sig) (h : g.1.2 ≠ .tc) : L g = ∅ := if_neg h
theorem L_tc (c : Dev nD) (sm : SemLoc sig) : L ((c : Thread nD τ), sm) = {()} := if_pos rfl
theorem lv_one (h : Fin 2) (s : Dev nD) : lvOf (.dma (dsem 1 h s)) = 2 := if_pos ⟨two_le_dsem _ _ _, famOf_dsem _ _ _⟩
theorem lv_three (h : Fin 2) (s : Dev nD) : lvOf (.dma (dsem 3 h s)) = 3 := by
  show ite _ _ _ = _
  rw [if_neg (fun e => by rw [famOf_dsem] at e; exact absurd e.2 (by decide)), if_pos ⟨two_le_dsem _ _ _, famOf_dsem _ _ _⟩]

/-- Whatever is owed lies above level `n`. -/
def Above (n : ℕ) (O : CellTallies nD τ sig Unit) : Prop := ∀ g u, 0 < O g u → u ∈ L g ∧ n < lv g u
theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.add_pos_iff_pos_or_pos.mp hp with h1 | h1
  · exact h g u h1
  · exact h' g u h1
theorem above_tally {n : ℕ} (c : Dev nD) (sm : SemLoc sig) (k : ℕ) (hl : n < lvOf sm) : Above n (tallyAt ((c : Thread nD τ), sm) () k) := fun g u hp => by
  rw [tallyAt_apply] at hp
  by_cases e : g = ((c : Thread nD τ), sm) ∧ u = ()
  · rw [e.1, L_tc]; exact ⟨Finset.mem_singleton_self _, hl⟩
  · rw [if_neg e] at hp; exact absurd hp (Nat.lt_irrefl 0)
theorem above_dues {n : ℕ} (f : Fin 15 → CellTallies nD τ sig Unit) (hf : ∀ r, Above n (f r)) : ∀ l, Above n (dues f l)
  | [] => above_zero n
  | r :: l => above_add (hf r) (above_dues f hf l)
theorem above_Z4 (c : Dev nD) : Above 2 (Z4 c) :=
  above_add (above_dues _ (fun r => above_tally _ _ _ (by rw [lv_three]; decide)) _) (above_zero _)
theorem above_Z3 (c : Dev nD) : Above 2 (Z3 c) := above_add (above_dues _ (fun r => above_tally _ _ _ (by rw [lv_three]; decide)) _) (above_Z4 c)
theorem Above.mono {n n' : ℕ} (hn : n' ≤ n) {O : CellTallies nD τ sig Unit} (h : Above n O) : Above n' O :=
  fun g u hp => ⟨(h g u hp).1, Nat.lt_of_le_of_lt hn (h g u hp).2⟩
theorem above_Z1 (c : Dev nD) : Above 1 (Z1 c) :=
  above_add (above_dues _ (fun r => above_tally _ _ _ (by rw [lv_one]; decide)) _)
    (above_add (above_dues _ (fun r => above_tally _ _ _ (by rw [lv_one]; decide)) _) ((above_Z3 c).mono (by decide)))
theorem above_O₀ (c : Dev nD) : Above 0 (O₀ c) :=
  above_add (above_dues _ (fun r => above_tally _ _ _ (show 0 < 1 by decide)) _) ((above_Z1 c).mono (by decide))

omit [FloatOps F] in
/-- A device may wait on a cell that lies below all it owes. -/
theorem mayWait {n : ℕ} (c : Dev nD) (sm : SemLoc sig) (hn : lvOf sm ≤ n) {O : CellTallies nD τ sig Unit} (hO : Above n O) :
    (levAts L lv : sProp 𝕄) ⊢ MayWait (c : Thread nD τ) sm () O :=
  Pipeline.mayWait_of_levAts (by rw [L_tc]; exact Finset.mem_singleton_self _) fun g u hp =>
    ⟨(hO g u hp).1, Nat.lt_of_le_of_lt hn (hO g u hp).2⟩

end Cert.AllReduce

end
-- ==== Proof.Parts.lean ====
/- The buffers cut into the parts that travel, and put together again. -/
module

public import proofs.«01_k».proof.Proof.Protocol
public import Idealize.ShloMosaic.Lib.Ring
public import Idealize.ShloMosaic.Lib.Ring.WriteBehind
public import Idealize.ShloMosaic.Lib.ViewIndex

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parts' elements -/

abbrev HD : Type := Fin 2 × Dev nD

def rowsRect (x : HD) : Rect S256x256 := Rect.unit (s := S256x256) ![16 * x.2.val + 8 * x.1.val, 0] S8x256.size (rows_inb x.2 x.1)
def slotRect (x : HD) : Rect S2x16x8x256 := Rect.unit (s := S2x16x8x256) ![x.1.val, x.2.val, 0, 0] S1x1x8x256.size (slot_inb x.1 x.2)
def halfRect (h : Fin 2) : Rect S2x8x256 := Rect.unit (s := S2x8x256) ![h.val, 0, 0] S1x8x256.size (half_inb h)

theorem rows_disjoint (x y : HD) (hxy : x ≠ y) : Disjoint (rowsRect x).set (rowsRect y).set :=
  Ring.boxes_disjoint_of_injective (s := S256x256) S8x256.size (fun x : HD => ![16 * x.2.val + 8 * x.1.val, 0]) (fun x => rows_inb x.2 x.1)
    (fun x => ![2 * x.2.val + x.1.val, 0])
    (fun x a => match a with
      | 0 => show 16 * x.2.val + 8 * x.1.val = (2 * x.2.val + x.1.val) * 8 by omega
      | 1 => rfl)
    (fun x y e => by
      have e0 : 2 * x.2.val + x.1.val = 2 * y.2.val + y.1.val := congrFun e 0
      have h1 := x.1.isLt; have h2 := y.1.isLt
      exact Prod.ext (Fin.ext (by omega)) (Fin.ext (by omega))) x y hxy
theorem slot_disjoint (x y : HD) (hxy : x ≠ y) : Disjoint (slotRect x).set (slotRect y).set :=
  Ring.boxes_disjoint_of_injective (s := S2x16x8x256) S1x1x8x256.size (fun x : HD => ![x.1.val, x.2.val, 0, 0]) (fun x => slot_inb x.1 x.2)
    (fun x => ![x.1.val, x.2.val, 0, 0])
    (fun x a => match a with
      | 0 => (Nat.mul_one _).symm
      | 1 => (Nat.mul_one _).symm
      | 2 => rfl
      | 3 => rfl)
    (fun x y e => Prod.ext (Fin.ext (congrFun e 0)) (Fin.ext (congrFun e 1))) x y hxy
theorem half_disjoint (x y : Fin 2) (hxy : x ≠ y) : Disjoint (halfRect x).set (halfRect y).set :=
  Ring.boxes_disjoint_of_injective (s := S2x8x256) S1x8x256.size (fun x : Fin 2 => ![x.val, 0, 0]) half_inb
    (fun x => ![x.val, 0, 0])
    (fun x a => match a with
      | 0 => (Nat.mul_one _).symm
      | 1 => rfl
      | 2 => rfl)
    (fun x y e => Fin.ext (congrFun e 0)) x y hxy

theorem rows_cover : Finset.univ.biUnion (fun x : HD => (rowsRect x).set) = Finset.univ := by
  refine Finset.eq_univ_iff_forall.mpr fun i => Finset.mem_biUnion.mpr ?_
  have h0 : (i 0).val < 256 := (i 0).isLt
  have h1 : (i 1).val < 256 := (i 1).isLt
  refine ⟨(⟨(i 0).val % 16 / 8, by omega⟩, ⟨(i 0).val / 16, by show _ < 16; omega⟩), Finset.mem_univ _, Rect.mem_set_unit.mpr fun a => ?_⟩
  match a with
  | 0 =>
    show 16 * ((i 0).val / 16) + 8 * ((i 0).val % 16 / 8) ≤ (i 0).val ∧ (i 0).val < 16 * ((i 0).val / 16) + 8 * ((i 0).val % 16 / 8) + 8
    omega
  | 1 => exact ⟨Nat.zero_le _, by show (i 1).val < 0 + 256; omega⟩
theorem slot_cover : Finset.univ.biUnion (fun x : HD => (slotRect x).set) = Finset.univ := by
  refine Finset.eq_univ_iff_forall.mpr fun i => Finset.mem_biUnion.mpr ?_
  refine ⟨(⟨(i 0).val, (i 0).isLt⟩, ⟨(i 1).val, (i 1).isLt⟩), Finset.mem_univ _, Rect.mem_set_unit.mpr fun a => ?_⟩
  match a with
  | 0 => exact ⟨le_refl _, Nat.lt_succ_self _⟩
  | 1 => exact ⟨le_refl _, Nat.lt_succ_self _⟩
  | 2 => exact ⟨Nat.zero_le _, by have : (i 2).val < 8 := (i 2).isLt; show (i 2).val < 0 + 8; omega⟩
  | 3 => exact ⟨Nat.zero_le _, by have : (i 3).val < 256 := (i 3).isLt; show (i 3).val < 0 + 256; omega⟩
theorem half_cover : Finset.univ.biUnion (fun h : Fin 2 => (halfRect h).set) = Finset.univ := by
  refine Finset.eq_univ_iff_forall.mpr fun i => Finset.mem_biUnion.mpr ?_
  refine ⟨⟨(i 0).val, (i 0).isLt⟩, Finset.mem_univ _, Rect.mem_set_unit.mpr fun a => ?_⟩
  match a with
  | 0 => exact ⟨le_refl _, Nat.lt_succ_self _⟩
  | 1 => exact ⟨Nat.zero_le _, by have : (i 1).val < 8 := (i 1).isLt; show (i 1).val < 0 + 8; omega⟩
  | 2 => exact ⟨Nat.zero_le _, by have : (i 2).val < 256 := (i 2).isLt; show (i 2).val < 0 + 256; omega⟩

theorem set_rows_o (x : HD) : (rowsV oM x.1 x.2).view.set = (rowsRect x).set := View.set_slice_whole cc0_stg1_0 _
theorem set_rows_s (x : HD) : (rowsV sM x.1 x.2).view.set = (rowsRect x).set := View.set_slice_whole cc0_scratch0 _
theorem set_slot (x : HD) : (slotV x.1 x.2).view.set = (slotRect x).set := (View.set_reshape _ _).trans (View.set_slice_whole cc0_scratch1 _)
theorem set_half (h : Fin 2) : (halfV h).view.set = (halfRect h).set := (View.set_reshape _ _).trans (View.set_slice_whole cc0_scratch2 _)

/-! ## Owning a part -/

omit [FloatOps F] in
/-- A part owned at what a buffer's contents read there is the part of the buffer at those contents. -/
theorem owns_at {c : Dev nD} {v : Memref sig .tc .vmem S8x256 .bf16} {q : PosShare TreeShare} {X : S8x256.Idx → Elt F .bf16}
    {g : v.view.ty.Contents (Elt F)} (hg : v.view.read (Elt F) g = X) :
    (owns (c : Thread nD τ) v q X : sProp 𝕄) ⊢ (v.view.loc (c : Thread nD τ) ↦[v.view.set]{q} g) := by
  unfold owns
  iintro ⟨%f, %hf, H⟩
  have e : ∀ i ∈ v.view.set, f i = g i := fun i hi => by
    obtain ⟨x, -, rfl⟩ := Finset.mem_map.mp hi
    exact View.eq_of_read_eq (congrFun (hf.trans hg.symm) x)
  iapply (Entails.of_eq (pointsTo_congr e)) $$ H

omit [FloatOps F] in
theorem someOf_intro (c : Dev nD) (v : Memref sig .tc .vmem S8x256 .bf16) (X : S8x256.Idx → Elt F .bf16) :
    (owns (c : Thread nD τ) v fullShare X : sProp 𝕄) ⊢ someOf c v := by
  unfold someOf; iintro H; iexists X; iexact H
omit [FloatOps F] in
theorem someOf_of_pts (c : Dev nD) (v : Memref sig .tc .vmem S8x256 .bf16) (f : v.view.ty.Contents (Elt F)) :
    (v.view.loc (c : Thread nD τ) ↦[v.view.set]{fullShare} f : sProp 𝕄) ⊢ someOf c v :=
  (owns_intro (c : Thread nD τ) v fullShare f).trans (someOf_intro c v _)
omit [FloatOps F] in
theorem someOf_pts (c : Dev nD) (v : Memref sig .tc .vmem S8x256 .bf16) :
    (someOf c v : sProp 𝕄) ⊢ iprop(∃ f : v.view.ty.Contents (Elt F), v.view.loc (c : Thread nD τ) ↦[v.view.set]{fullShare} f) := by
  unfold someOf owns
  iintro ⟨%X, %f, -, H⟩
  iexists f; iexact H

/-! ## Cutting -/

variable (m : (ℓ : Loc nD τ sig) → Buf (Elt F) ℓ) (ρ : Dev nD → PrngReg)

theorem cut_send (c : Dev nD) : (((c : Thread nD τ).loc cc0_scratch0) ↦{fullShare} sendC m ρ c : sProp 𝕄)
    ⊢ bigSep Finset.univ fun x : HD => owns (c : Thread nD τ) (rowsV sM x.1 x.2) fullShare (slab m ρ c x.1 x.2) := by
  rw [Ring.pointsTo_blocks (fun x : HD => (rowsRect x).set) rows_disjoint rows_cover]
  refine bigSep_mono fun x _ => ?_
  rw [← set_rows_s]
  exact owns_intro (c : Thread nD τ) (rowsV sM x.1 x.2) fullShare (sendC m ρ c)
omit [FloatOps F] in
theorem cut_out (c : Dev nD) (f : Buf (Elt F) ((c : Thread nD τ).loc cc0_stg1_0)) : (((c : Thread nD τ).loc cc0_stg1_0) ↦{fullShare} f : sProp 𝕄)
    ⊢ bigSep Finset.univ fun x : HD => someOf c (rowsV oM x.1 x.2) := by
  rw [Ring.pointsTo_blocks (fun x : HD => (rowsRect x).set) rows_disjoint rows_cover]
  refine bigSep_mono fun x _ => ?_
  rw [← set_rows_o]
  exact someOf_of_pts c (rowsV oM x.1 x.2) f
omit [FloatOps F] in
theorem cut_slots (c : Dev nD) (f : Buf (Elt F) ((c : Thread nD τ).loc cc0_scratch1)) : (((c : Thread nD τ).loc cc0_scratch1) ↦{fullShare} f : sProp 𝕄)
    ⊢ bigSep Finset.univ fun x : HD => someOf c (slotV x.1 x.2) := by
  rw [Ring.pointsTo_blocks (fun x : HD => (slotRect x).set) slot_disjoint slot_cover]
  refine bigSep_mono fun x _ => ?_
  rw [← set_slot]
  exact someOf_of_pts c (slotV x.1 x.2) f
omit [FloatOps F] in
theorem cut_halves (c : Dev nD) (f : Buf (Elt F) ((c : Thread nD τ).loc cc0_scratch2)) : (((c : Thread nD τ).loc cc0_scratch2) ↦{fullShare} f : sProp 𝕄)
    ⊢ bigSep Finset.univ fun h : Fin 2 => someOf c (halfV h) := by
  rw [Ring.pointsTo_blocks (fun h : Fin 2 => (halfRect h).set) half_disjoint half_cover]
  refine bigSep_mono fun h _ => ?_
  rw [← set_half]
  exact someOf_of_pts c (halfV h) f
omit [FloatOps F] in
theorem pts_leaves (n : ℕ) (ℓ : Loc nD τ sig) (I : Finset (Idx ℓ)) (f : Buf (Elt F) ℓ) :
    (ℓ ↦[I]{fullShare} f : sProp 𝕄) = bigSep Finset.univ fun s : Fin (2 ^ n) => ℓ ↦[I]{ShareLeaves.leaf n fullShare s} f :=
  ShareLeaves.pointsTo_leaves I f n fullShare
omit [FloatOps F] in
/-- A part dealt in equal shares; -/
theorem deal_leaves (n : ℕ) (c : Dev nD) (v : Memref sig .tc .vmem S8x256 .bf16) (X : S8x256.Idx → Elt F .bf16) :
    (owns (c : Thread nD τ) v fullShare X : sProp 𝕄)
      ⊢ bigSep Finset.univ fun s : Fin (2 ^ n) => owns (c : Thread nD τ) v (ShareLeaves.leaf n fullShare s) X := by
  unfold owns
  iintro ⟨%f, %hf, H⟩
  subst hf
  iapply (show _ ⊢ (bigSep Finset.univ fun s : Fin (2 ^ n) => owns (c : Thread nD τ) v (ShareLeaves.leaf n fullShare s) (v.view.read (Elt F) f) : sProp 𝕄) from
    (Entails.of_eq (pts_leaves n (v.view.loc (c : Thread nD τ)) v.view.set f)).trans
      (bigSep_mono fun s _ => owns_intro (c : Thread nD τ) v (ShareLeaves.leaf n fullShare s) f)) $$ H

/-! ## Joining -/

theorem outC_at (s : Dev nD) (h : Fin 2) (y : S8x256.Idx) (j : S256x256.Idx) (e0 : (j 0).val = 16 * s.val + 8 * h.val + (y 0).val)
    (e1 : (j 1).val = (y 1).val) : outC m ρ j = red m ρ s h y := by
  have hy : (y 0).val < 8 := (y 0).isLt
  have hh := h.isLt
  have h1 : devIx j = s := Fin.ext (by show (j 0).val / 16 = _; omega)
  have h2 : halfIx j = h := Fin.ext (by show (j 0).val % 16 / 8 = _; omega)
  have h3 : lowIx j = y := funext fun a => match a with
    | 0 => Fin.ext (by show (j 0).val % 8 = (y 0).val; omega)
    | 1 => Fin.ext e1
  show red m ρ (devIx j) (halfIx j) (lowIx j) = _
  rw [h1, h2, h3]
theorem read_out (x : HD) : (rowsV oM x.1 x.2).view.read (Elt F) (outC m ρ) = red m ρ x.2 x.1 :=
  funext fun y => outC_at m ρ x.2 x.1 y ((rowsRect x).emb y)
    (show 16 * x.2.val + 8 * x.1.val + 1 * (y 0).val = _ by rw [Nat.one_mul])
    (show 0 + 1 * (y 1).val = _ by omega)
theorem join_out (c : Dev nD) : (bigSep Finset.univ fun x : HD => owns (c : Thread nD τ) (rowsV oM x.1 x.2) fullShare (red m ρ x.2 x.1))
    ⊢ (((c : Thread nD τ).loc cc0_stg1_0) ↦{fullShare} outC m ρ : sProp 𝕄) := by
  rw [Ring.pointsTo_blocks (fun x : HD => (rowsRect x).set) rows_disjoint rows_cover]
  refine bigSep_mono fun x _ => ?_
  rw [← set_rows_o]
  exact owns_at (read_out m ρ x)
omit [FloatOps F] in
theorem join_send (c : Dev nD) (f₀ : Buf (Elt F) ((c : Thread nD τ).loc cc0_scratch0)) : (bigSep Finset.univ fun x : HD => someOf c (rowsV sM x.1 x.2))
    ⊢ (iprop(∃ f : Buf (Elt F) ((c : Thread nD τ).loc cc0_scratch0), ((c : Thread nD τ).loc cc0_scratch0) ↦{fullShare} f) : sProp 𝕄) := by
  refine (bigSep_mono fun x _ => (someOf_pts c (rowsV sM x.1 x.2)).trans (Entails.of_eq (by rw [set_rows_s]))).trans ?_
  exact Ring.pointsTo_blocks_join_exists (ℓ := (c : Thread nD τ).loc cc0_scratch0) (fun x : HD => (rowsRect x).set) rows_disjoint rows_cover f₀
omit [FloatOps F] in
theorem join_slots (c : Dev nD) (f₀ : Buf (Elt F) ((c : Thread nD τ).loc cc0_scratch1)) : (bigSep Finset.univ fun x : HD => someOf c (slotV x.1 x.2))
    ⊢ (iprop(∃ f : Buf (Elt F) ((c : Thread nD τ).loc cc0_scratch1), ((c : Thread nD τ).loc cc0_scratch1) ↦{fullShare} f) : sProp 𝕄) := by
  refine (bigSep_mono fun x _ => (someOf_pts c (slotV x.1 x.2)).trans (Entails.of_eq (by rw [set_slot]))).trans ?_
  exact Ring.pointsTo_blocks_join_exists (ℓ := (c : Thread nD τ).loc cc0_scratch1) (fun x : HD => (slotRect x).set) slot_disjoint slot_cover f₀
omit [FloatOps F] in
theorem join_halves (c : Dev nD) (f₀ : Buf (Elt F) ((c : Thread nD τ).loc cc0_scratch2)) : (bigSep Finset.univ fun h : Fin 2 => someOf c (halfV h))
    ⊢ (iprop(∃ f : Buf (Elt F) ((c : Thread nD τ).loc cc0_scratch2), ((c : Thread nD τ).loc cc0_scratch2) ↦{fullShare} f) : sProp 𝕄) := by
  refine (bigSep_mono fun h _ => (someOf_pts c (halfV h)).trans (Entails.of_eq (by rw [set_half]))).trans ?_
  exact Ring.pointsTo_blocks_join_exists (ℓ := (c : Thread nD τ).loc cc0_scratch2) (fun h : Fin 2 => (halfRect h).set) half_disjoint half_cover f₀
omit [FloatOps F] in
/-- and its shares put together. -/
theorem pool_leaves (n : ℕ) (c : Dev nD) (v : Memref sig .tc .vmem S8x256 .bf16) (f₀ : v.view.ty.Contents (Elt F)) (X : S8x256.Idx → Elt F .bf16) :
    (bigSep Finset.univ fun s : Fin (2 ^ n) => owns (c : Thread nD τ) v (ShareLeaves.leaf n fullShare s) X)
      ⊢ (owns (c : Thread nD τ) v fullShare X : sProp 𝕄) := by
  obtain ⟨g, hg⟩ : ∃ g : v.view.ty.Contents (Elt F), v.view.read (Elt F) g = X := ⟨_, View.read_write_univ f₀ X⟩
  subst hg
  refine (bigSep_mono fun s _ => owns_at (q := ShareLeaves.leaf n fullShare s) rfl).trans ?_
  exact (Entails.of_eq (pts_leaves n (v.view.loc (c : Thread nD τ)) v.view.set g).symm).trans (owns_intro (c : Thread nD τ) v fullShare g)

end Cert.AllReduce

end
-- ==== Proof.Steps.lean ====
/- One rule for each kind of step the kernel repeats, at any half, device and distance, and the rules that run a loop from
   its step. -/
module

public import proofs.«01_k».proof.Proof.Parts
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a stretch of the body on device `c`. -/
abbrev WP (c : Dev nD) (e : BProg F) (Q : PUnit → sProp 𝕄) : sProp 𝕄 :=
  wp frame (wpE (defs₀ (F := F)) 𝒱₀ (c : Thread nD τ) none) Set.univ e Q

/-! ## Loops -/

theorem each_rule {c : Dev nD} {Q : PUnit → sProp 𝕄} (P : sProp 𝕄) [BI.Persistent P] (A B : Fin 15 → sProp 𝕄) (T : List (Fin 15) → sProp 𝕄)
    (f : Fin 15 → BProg F → BProg F)
    (step : ∀ r l k, iprop(P ∗ A r ∗ T (r :: l)) ⊢ iprop(((B r ∗ T l) -∗ WP c k Q) -∗ WP c (f r k) Q)) :
    ∀ l k, iprop(P ∗ bigSepL l A ∗ T l) ⊢ iprop(((bigSepL l B ∗ T []) -∗ WP c k Q) -∗ WP c (each f l k) Q)
  | [], k => by
    show iprop(P ∗ bigSepL [] A ∗ T []) ⊢ iprop(((bigSepL [] B ∗ T []) -∗ WP c k Q) -∗ WP c k Q)
    rw [bigSepL_nil, bigSepL_nil]
    iintro ⟨-, -, HT⟩ Hk
    iapply Hk
    isplitr; · iempintro
    iexact HT
  | r :: l, k => by
    show iprop(P ∗ bigSepL (r :: l) A ∗ T (r :: l)) ⊢ iprop(((bigSepL (r :: l) B ∗ T []) -∗ WP c k Q) -∗ WP c (f r (each f l k)) Q)
    rw [bigSepL_cons', bigSepL_cons']
    iintro ⟨#HP, ⟨HA, HAs⟩, HT⟩ Hk
    iapply (step r l (each f l k)) $$ [HA HT]
    · isplitr; · iexact HP
      isplitl [HA] <;> iassumption
    iintro ⟨HB, HT⟩
    iapply (each_rule P A B T f step l k) $$ [HAs HT]
    · isplitr; · iexact HP
      isplitl [HAs] <;> iassumption
    iintro ⟨HBs, HT⟩
    iapply Hk
    isplitl [HB HBs]
    · isplitl [HB] <;> iassumption
    iexact HT

theorem carry_rule {c : Dev nD} {Q : PUnit → sProp 𝕄} {X : Type} (P : sProp 𝕄) [BI.Persistent P] (A B : Fin 15 → sProp 𝕄) (T : sProp 𝕄)
    (f : Fin 15 → X → (X → BProg F) → BProg F) (g : X → Fin 15 → X)
    (step : ∀ r x k, iprop(P ∗ A r ∗ T) ⊢ iprop(((B r ∗ T) -∗ WP c (k (g x r)) Q) -∗ WP c (f r x k) Q)) :
    ∀ l x k, iprop(P ∗ bigSepL l A ∗ T) ⊢ iprop(((bigSepL l B ∗ T) -∗ WP c (k (l.foldl g x)) Q) -∗ WP c (carry f l x k) Q)
  | [], x, k => by
    show iprop(P ∗ bigSepL [] A ∗ T) ⊢ iprop(((bigSepL [] B ∗ T) -∗ WP c (k x) Q) -∗ WP c (k x) Q)
    rw [bigSepL_nil, bigSepL_nil]
    iintro ⟨-, -, HT⟩ Hk
    iapply Hk
    isplitr; · iempintro
    iexact HT
  | r :: l, x, k => by
    show iprop(P ∗ bigSepL (r :: l) A ∗ T) ⊢ iprop(((bigSepL (r :: l) B ∗ T) -∗ WP c (k (l.foldl g (g x r))) Q) -∗ WP c (f r x fun x' => carry f l x' k) Q)
    rw [bigSepL_cons', bigSepL_cons']
    iintro ⟨#HP, ⟨HA, HAs⟩, HT⟩ Hk
    iapply (step r x fun x' => carry f l x' k) $$ [HA HT]
    · isplitr; · iexact HP
      isplitl [HA] <;> iassumption
    iintro ⟨HB, HT⟩
    iapply (carry_rule P A B T f g step l (g x r) k) $$ [HAs HT]
    · isplitr; · iexact HP
      isplitl [HAs] <;> iassumption
    iintro ⟨HBs, HT⟩
    iapply Hk
    isplitl [HB HBs]
    · isplitl [HB] <;> iassumption
    iexact HT

/-! ## What every step may use -/

variable (m : (ℓ : Loc nD τ sig) → Buf (Elt F) ℓ) (ρ : Dev nD → PrngReg) (K : Dev nD × Ix → ℕ)

/-- The cells' invariants and first rounds, and the levels: shared by all devices. -/
def recs : sProp 𝕄 :=
  iprop((bigSep Finset.univ fun ck : Dev nD × Ix => cellInv ER (Rd m ρ) (K ck) (kcell ck))
    ∗ (bigSep Finset.univ fun ck : Dev nD × Ix => reached ER (kcell ck) 0) ∗ (levAts L lv : sProp 𝕄))
instance recs_persistent : BI.Persistent (recs m ρ K) := by unfold recs; infer_instance

theorem recs_bar (c : Dev nD) : recs m ρ K ⊢ iprop(cellInv ER (Rd m ρ) (K (c, none)) (barCell c) ∗ reached ER (barCell c) 0) := by
  unfold recs
  iintro ⟨#HI, #HR, -⟩
  isplitr
  · iapply (show _ ⊢ (cellInv ER (Rd m ρ) (K (c, none)) (barCell c) : sProp 𝕄) from bigSep_elim (Finset.mem_univ ((c, none) : Dev nD × Ix))) $$ HI
  · iapply (show _ ⊢ (reached ER (barCell c) 0 : sProp 𝕄) from bigSep_elim (Finset.mem_univ ((c, none) : Dev nD × Ix))) $$ HR
theorem recs_dma (c : Dev nD) (a : Fin 4) (h : Fin 2) (s : Dev nD) :
    recs m ρ K ⊢ iprop(cellInv ER (Rd m ρ) (K (c, some (a, h, s))) (dcell c a h s) ∗ reached ER (dcell c a h s) 0) := by
  unfold recs
  iintro ⟨#HI, #HR, -⟩
  isplitr
  · iapply (show _ ⊢ (cellInv ER (Rd m ρ) (K (c, some (a, h, s))) (dcell c a h s) : sProp 𝕄) from bigSep_elim (Finset.mem_univ ((c, some (a, h, s)) : Dev nD × Ix))) $$ HI
  · iapply (show _ ⊢ (reached ER (dcell c a h s) 0 : sProp 𝕄) from bigSep_elim (Finset.mem_univ ((c, some (a, h, s)) : Dev nD × Ix))) $$ HR
theorem recs_mayWait (c : Dev nD) (sm : SemLoc sig) {n : ℕ} (hn : lvOf sm ≤ n) {O : CellTallies nD τ sig Unit} (hO : Above n O) :
    recs m ρ K ⊢ MayWait (c : Thread nD τ) sm () O := by
  unfold recs; iintro ⟨-, -, #H⟩; iapply (mayWait (F := F) c sm hn hO) $$ H

/-- What a device owes, whatever it has waited on. -/
def owesAny (c : Dev nD) (O : CellTallies nD τ sig Unit) : sProp 𝕄 := iprop(∃ W, owes (c : Thread nD τ) O W)

/-! ## The entry signals -/

theorem step_announce (c : Dev nD) (Z : CellTallies nD τ sig Unit) (Q : PUnit → sProp 𝕄) (r : Fin 15) (l : List (Fin 15)) (k : BProg F) :
    iprop(recs m ρ K ∗ (dutyTok ER (barCell (rot c r)) 0 c ∗ barPay (rot c r) c) ∗ owesAny c (dues (fBar c) (r :: l) + Z))
      ⊢ iprop(((emp ∗ owesAny c (dues (fBar c) l + Z)) -∗ WP c k Q) -∗ WP c (opAnnounce c r k) Q) := by
  unfold opAnnounce owesAny
  rw [peerW_eq]
  iintro ⟨#HR, ⟨Ht, Hp⟩, ⟨%W, HO⟩⟩ Hk
  ihave Hb := (recs_bar m ρ K (rot c r)) $$ HR
  icases Hb with ⟨#HI, #Hr⟩
  iapply (Rounds.wp_signal 𝒱₀ ER (Rd m ρ) (c : Thread nD τ) none (dst := (rot c r : Thread nD τ)) (κ := K (rot c r, none))
      (d := c) (by rw [duties_bar]; exact Finset.mem_erase.mpr ⟨(rot_ne c r).symm, Finset.mem_univ _⟩) rfl ()
      (dues (fBar c) l + Z) (dues_cons (fBar c) r l Z)) $$ [HO Ht Hp]
  · isplitr; · iexact HI
    isplitl [HO]; · iexact HO
    isplitl [Ht]; · iexact Ht
    isplitl [Hp]; · rw [payload_bar]; iexact Hp
    iexact Hr
  iintro HO
  iapply Hk
  isplitr; · iempintro
  iexists W; iexact HO

/-! ## A transfer -/

theorem send_part (c : Dev nD) {n : Dev nD} (r : Fin 15) (hn : n = rot c r) (a a' : Fin 4) (h : Fin 2) {qS qD : DmaSem sig}
    (hS : qS = dsem a h (rot c r)) (hD : qD = dsem a' h c) {src src' : Memref sig .tc .vmem S8x256 .bf16} (hsrc' : src = src')
    {dst : Memref sig (Dev.tc n : Thread nD τ).2.kind .vmem S8x256 .bf16} {dst' : Memref sig .tc .vmem S8x256 .bf16} (hdst' : dst = dst')
    (hcr : dst'.view.dmaCredit = N) (q : PosShare TreeShare) (X : S8x256.Idx → Elt F .bf16)
    (pay₁ : (owns (c : Thread nD τ) src' q X : sProp 𝕄) ⊢ xferPay m ρ c a.val h (rot c r))
    (pay₂ : (owns (rot c r : Thread nD τ) dst' fullShare X : sProp 𝕄) ⊢ xferPay m ρ (rot c r) a'.val h c)
    {hsc : dst.view.ref.isScScratch = false} {hsrc : src.view.WordExact} {hdst : dst.view.WordExact}
    {hsem : DmaTarget.Typed .vmem (.dma qD) (.remote (Dev.tc n : Thread nD τ) dst (.dma qS) hsc)}
    {k : PUnit → BProg F} (Z : CellTallies nD τ sig Unit) (Q : PUnit → sProp 𝕄) (l : List (Fin 15)) :
    iprop(recs m ρ K ∗ (owns (c : Thread nD τ) src' q X ∗ someOf (rot c r) dst' ∗ dutyTok ER (dcell c a h (rot c r)) 0 (rot c r)
          ∗ dutyTok ER (dcell (rot c r) a' h c) 0 c) ∗ owesAny c (dues (fX c a' h) (r :: l) + Z))
      ⊢ iprop(((cred (tallyAt (dcell c a h (rot c r)) () N) ∗ owesAny c (dues (fX c a' h) l + Z)) -∗ WP c (k ⟨⟩) Q)
          -∗ WP c (.op (.enqueueDma src (.remote (Dev.tc n : Thread nD τ) dst (.dma qS) hsc) (.dma qD) hsrc hdst hsem) k) Q) := by
  subst hn hS hD hsrc' hdst'
  unfold owesAny
  iintro ⟨#HR, ⟨Hs, Hd, HtS, HtD⟩, ⟨%W, HO⟩⟩ Hk
  ihave HbS := (recs_dma m ρ K c a h (rot c r)) $$ HR
  icases HbS with ⟨#HIS, #HrS⟩
  ihave HbD := (recs_dma m ρ K (rot c r) a' h c) $$ HR
  icases HbD with ⟨#HID, #HrD⟩
  ihave Hd' := (someOf_pts (rot c r) dst) $$ Hd
  ihave Hs := (Entails.of_eq (show owns (c : Thread nD τ) src q X = iprop(∃ f, ⌜src.view.read (Elt F) f = X⌝ ∗ (src.view.loc (c : Thread nD τ) ↦[src.view.set]{q} f)) from rfl)) $$ Hs
  icases Hs with ⟨%fs, %hfs, Hs⟩
  subst hfs
  icases Hd' with ⟨%fd, Hd⟩
  iapply (Rounds.wp_send_pointsTo 𝒱₀ ER (Rd m ρ) (c : Thread nD τ) none (κ₁ := K (c, some (a, h, rot c r))) (κ₂ := K (rot c r, some (a', h, c)))
    (r₁ := 0) (r₂ := 0) (d₁ := rot c r) (d₂ := c) (fs := fs) (fd := fd) (q := q)
    (by rw [duties_dma m ρ c a h (rot c r) (rot_ne c r)]; exact Finset.mem_singleton_self _)
    (by rw [duties_dma m ρ (rot c r) a' h c (rot_ne c r).symm]; exact Finset.mem_singleton_self _)
    () () N (show dst.view.amount (.dma (dsem a' h c)) = N from hcr) rfl rfl (dues (fX c a' h) l + Z) (dues_cons (fX c a' h) r l Z) (W := W)
    (by rw [payload_dma]; exact (owns_intro (c : Thread nD τ) src q fs).trans pay₁)
    (by
      rw [payload_dma]
      refine (owns_intro (rot c r : Thread nD τ) dst fullShare _).trans ((Entails.of_eq ?_).trans pay₂)
      rw [View.read_write_univ])) $$ [Hs Hd HO HtS HtD]
  · isplitr; · iexact HIS
    isplitr; · iexact HID
    isplitl [Hs]; · iexact Hs
    isplitl [Hd]; · iexact Hd
    isplitl [HO]; · iexact HO
    isplitl [HtS]; · iexact HtS
    isplitr; · iexact HrS
    isplitl [HtD]; · iexact HtD
    iexact HrD
  iintro ⟨Hc, HO⟩
  iapply Hk
  isplitl [Hc]; · iexact Hc
  iexists W; iexact HO

/-! ## A wait for a transfer -/

theorem wait_part (c : Dev nD) (a : Fin 4) (h : Fin 2) (s : Dev nD) (hs : s ≠ c) {q : DmaSem sig} (hq : q = dsem a h s)
    {src : Memref sig .tc .vmem S8x256 .bf16} {dst : Memref sig .tc .vmem S8x256 .bf16} {hsrc : src.view.WordExact} {hdst : dst.view.WordExact}
    (hcr : dst.view.dmaCredit = N) {n : ℕ} (hn : lvOf (.dma (dsem a h s)) ≤ n) {Z : CellTallies nD τ sig Unit} (hZ : Above n Z)
    {k : PUnit → BProg F} (Q : PUnit → sProp 𝕄) :
    iprop(recs m ρ K ∗ (cred (tallyAt (dcell c a h s) () N) ∗ atPos ER (dcell c a h s) 0 ∅ 0) ∗ owesAny c Z)
      ⊢ iprop((((xferPay m ρ c a.val h s ∗ atPos ER (dcell c a h s) 1 ∅ 0) ∗ owesAny c Z) -∗ WP c (k ⟨⟩) Q)
          -∗ WP c (.op (.waitDma2 q src dst hsrc hdst) k) Q) := by
  subst hq
  unfold owesAny
  iintro ⟨#HR, ⟨Hc, Ha⟩, ⟨%W, HO⟩⟩ Hk
  ihave Hb := (recs_dma m ρ K c a h s) $$ HR
  icases Hb with ⟨#HI, -⟩
  have hw : ∀ P : PUnit → sProp 𝕄, wpE (defs₀ (F := F)) 𝒱₀ (c : Thread nD τ) none Set.univ (.waitDma2 (dsem a h s) src dst hsrc hdst) P
      = waitSpec (c : Thread nD τ) Set.univ (.dma (dsem a h s)) N P := fun P => by
    rw [← hcr]; exact wpE_waitDma2_eq 𝒱₀ (c : Thread nD τ) none Set.univ P
  iapply (Rounds.wp_wait_rest_token 𝒱₀ ER (Rd m ρ) (c : Thread nD τ) none (κ := K (c, some (a, h, s))) (k' := N)
      hw (Set.mem_univ _) () (O := Z)
      (W := W) (R := 0) (m := 0) (T := ∅) (by rw [Nat.zero_add, expect_dma m ρ c a h s hs])) $$ [Hc HO Ha]
  · isplitr; · iexact HI
    isplitl [Hc]; · iexact Hc
    isplitl [HO]; · iexact HO
    isplitr; · iapply (recs_mayWait m ρ K c (.dma (dsem a h s)) hn hZ) $$ HR
    iexact Ha
  iintro ⟨HO, Ha, -, Hp⟩
  ihave Hp' := (Entails.of_eq (rest_dma m ρ c a h s hs)) $$ Hp
  iapply Hk
  isplitl [Ha Hp']
  · isplitl [Hp'] <;> iassumption
  iexists _; iexact HO

end Cert.AllReduce

end
-- ==== Proof.Ops.lean ====
/- The rules of the kernel's own steps, one for each kind, at any half, device and distance. -/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Views at equal offsets -/

theorem rowsAt_eq (b : Memref sig .tc .vmem S256x256 .bf16) {h : Fin 2} {s : Dev nD} {o : Fin 2 → Nat} (e : o = ![16 * s.val + 8 * h.val, 0]) (ho) :
    rowsAt b o ho = rowsV b h s := by subst e; rfl
theorem slotAt_eq {h : Fin 2} {s : Dev nD} {o : Fin 4 → Nat} (e : o = ![h.val, s.val, 0, 0]) (ho) : slotAt rM o ho = slotV h s := by subst e; rfl
theorem halfAt_eq {h : Fin 2} {o : Fin 3 → Nat} (e : o = ![h.val, 0, 0]) (ho) : halfAt gM o ho = halfV h := by subst e; rfl

variable (m : (ℓ : Loc nD τ sig) → Buf (Elt F) ℓ) (ρ : Dev nD → PrngReg) (K : Dev nD × Ix → ℕ) (c : Dev nD)

/-- The tokens a device holds to send its slab or its reduced rows to `p`: the departure's and the arrival's. -/
def sendToks (a a' : Fin 4) (h : Fin 2) (p : Dev nD) : sProp 𝕄 := iprop(dutyTok ER (dcell c a h p) 0 p ∗ dutyTok ER (dcell p a' h c) 0 c)
/-- The right to wait at a transfer's cell, before and after. -/
def waiting (a : Fin 4) (h : Fin 2) (p : Dev nD) : sProp 𝕄 := iprop(cred (tallyAt (dcell c a h p) () N) ∗ atPos ER (dcell c a h p) 0 ∅ 0)
def landed (a : Fin 4) (h : Fin 2) (p : Dev nD) : sProp 𝕄 := iprop(xferPay m ρ c a.val h p ∗ atPos ER (dcell c a h p) 1 ∅ 0)

variable (h : Fin 2) (r : Fin 15)

theorem step_scatter (Q : PUnit → sProp 𝕄) (hs : sM.IsWhole) (hr : rM.IsWhole) (Z : CellTallies nD τ sig Unit) (l : List (Fin 15)) (k : BProg F) :
    iprop(recs m ρ K ∗ (owns (c : Thread nD τ) (rowsV sM h (rot c r)) fullShare (slab m ρ c h (rot c r)) ∗ someOf (rot c r) (slotV h c)
          ∗ sendToks c 0 1 h (rot c r)) ∗ owesAny c (dues (fX c 1 h) (r :: l) + Z))
      ⊢ iprop(((cred (tallyAt (dcell c 0 h (rot c r)) () N) ∗ owesAny c (dues (fX c 1 h) l + Z)) -∗ WP c k Q)
          -∗ WP c (opScatter sM hs rM hr cc0_scratch3 cc0_scratch4 h c r k) Q) := by
  unfold opScatter sendToks
  exact send_part (k := fun _ => k) m ρ K c r (peerW_eq c r) 0 1 h (show semAt cc0_scratch3 _ (offPeer_inb h c r) = _ from semAt_eq 0 h (rot c r) (offPeer_eq h c r) _) (show semAt cc0_scratch4 _ (offMe_inb h c) = _ from semAt_eq 1 h c (offMe_eq h c) _)
    (rowsAt_eq sM (k0_off4_eq c r h) _) (slotAt_eq (offSlotMe_eq h c) _) (credit_slot _ _ _) fullShare _ .rfl .rfl Z Q l

theorem step_broadcast (Q : PUnit → sProp 𝕄) (ho : oM.IsWhole) (hg : gM.IsWhole) (Z : CellTallies nD τ sig Unit) (l : List (Fin 15)) (k : BProg F) :
    iprop(recs m ρ K ∗ (owns (c : Thread nD τ) (halfV h) (ShareLeaves.leaf 4 fullShare (rot c r)) (red m ρ c h) ∗ someOf (rot c r) (rowsV oM h c)
          ∗ sendToks c 2 3 h (rot c r)) ∗ owesAny c (dues (fX c 3 h) (r :: l) + Z))
      ⊢ iprop(((cred (tallyAt (dcell c 2 h (rot c r)) () N) ∗ owesAny c (dues (fX c 3 h) l + Z)) -∗ WP c k Q)
          -∗ WP c (opBroadcast oM ho gM hg cc0_scratch5 cc0_scratch6 h c r k) Q) := by
  unfold opBroadcast sendToks
  exact send_part (k := fun _ => k) m ρ K c r (peerW_eq c r) 2 3 h (show semAt cc0_scratch5 _ (offPeer_inb h c r) = _ from semAt_eq 2 h (rot c r) (offPeer_eq h c r) _) (show semAt cc0_scratch6 _ (offMe_inb h c) = _ from semAt_eq 3 h c (offMe_eq h c) _)
    (halfAt_eq (offHalf_eq h) _) (rowsAt_eq oM (k0_off11_eq c h) _) (credit_rows _ _ _) (ShareLeaves.leaf 4 fullShare (rot c r)) _ .rfl .rfl Z Q l

theorem lv_le (a : Fin 4) (s : Dev nD) : lvOf (.dma (dsem a h s)) ≤ 3 := by unfold lvOf; dsimp only; split_ifs <;> decide

theorem step_collect (Q : PUnit → sProp 𝕄) (ho : oM.IsWhole) (hg : gM.IsWhole) (l : List (Fin 15)) (k : BProg F) :
    iprop(recs m ρ K ∗ waiting c 3 h (rot c r) ∗ owesAny c 0)
      ⊢ iprop(((landed m ρ c 3 h (rot c r) ∗ owesAny c 0) -∗ WP c k Q) -∗ WP c (opCollect oM ho gM hg cc0_scratch6 h c r k) Q) := by
  unfold waiting landed opCollect
  exact wait_part (k := fun _ => k) m ρ K c 3 h (rot c r) (rot_ne c r) (show semAt cc0_scratch6 _ (offPeer_inb h c r) = _ from semAt_eq 3 h (rot c r) (offPeer_eq h c r) _) (credit_rows _ _ _) (lv_le h 3 _) (above_zero _) Q
theorem step_drain_scatter (Q : PUnit → sProp 𝕄) (hs : sM.IsWhole) (hr : rM.IsWhole) (l : List (Fin 15)) (k : BProg F) :
    iprop(recs m ρ K ∗ waiting c 0 h (rot c r) ∗ owesAny c 0)
      ⊢ iprop(((landed m ρ c 0 h (rot c r) ∗ owesAny c 0) -∗ WP c k Q) -∗ WP c (opDrainScatter sM hs rM hr cc0_scratch3 h c r k) Q) := by
  unfold waiting landed opDrainScatter
  exact wait_part (k := fun _ => k) m ρ K c 0 h (rot c r) (rot_ne c r) (show semAt cc0_scratch3 _ (offPeer_inb h c r) = _ from semAt_eq 0 h (rot c r) (offPeer_eq h c r) _) (credit_rows _ _ _) (lv_le h 0 _) (above_zero _) Q
theorem step_drain_broadcast (Q : PUnit → sProp 𝕄) (ho : oM.IsWhole) (hg : gM.IsWhole) (l : List (Fin 15)) (k : BProg F) :
    iprop(recs m ρ K ∗ waiting c 2 h (rot c r) ∗ owesAny c 0)
      ⊢ iprop(((landed m ρ c 2 h (rot c r) ∗ owesAny c 0) -∗ WP c k Q) -∗ WP c (opDrainBroadcast oM ho gM hg cc0_scratch5 h c r k) Q) := by
  unfold waiting landed opDrainBroadcast
  exact wait_part (k := fun _ => k) m ρ K c 2 h (rot c r) (rot_ne c r) (show semAt cc0_scratch5 _ (offPeer_inb h c r) = _ from semAt_eq 2 h (rot c r) (offPeer_eq h c r) _) (credit_half _ _ _) (lv_le h 2 _) (above_zero _) Q

/-! ## Loads and stores -/

theorem load_slot (s : Dev nD) (Q : PUnit → sProp 𝕄) {o : Fin 4 → Nat} (e : o = ![h.val, s.val, 0, 0]) (ho) {hl} (q : PosShare TreeShare)
    (X : S8x256.Idx → Elt F .bf16) (a : FVec F S8x256 .f32) (k : FVec F S8x256 .f32 → BProg F) :
    (owns (c : Thread nD τ) (slotV h s) q X : sProp 𝕄)
      ⊢ iprop((owns (c : Thread nD τ) (slotV h s) q X -∗ WP c (k (addf a (extf .f32 X bitsLt_bf16_f32))) Q)
          -∗ WP c (.op (.load rM (Rect.unit (s := S2x16x8x256) o S1x1x8x256.size ho).toLoadRect hl) fun v => k (addIn a v)) Q) := by
  subst e
  unfold owns
  iintro ⟨%f, %hf, Hp⟩ Hk
  subst hf
  iapply (wp_load_rect 𝒱₀ (c : Thread nD τ) none Set.univ (S := (slotV h s).view.set) (Finset.subset_of_eq (View.set_reshape _ _).symm)) $$ Hp
  iintro Hp
  iapply Hk
  iexists f
  isplitr; · ipureintro; rfl
  iexact Hp

theorem load_rows (b : Memref sig .tc .vmem S256x256 .bf16) (s : Dev nD) (Q : PUnit → sProp 𝕄) {o : Fin 2 → Nat} (e : o = ![16 * s.val + 8 * h.val, 0]) (ho) {hl} (q : PosShare TreeShare)
    (X : S8x256.Idx → Elt F .bf16) (k : (S8x256.Idx → Elt F .bf16) → BProg F) :
    (owns (c : Thread nD τ) (rowsV b h s) q X : sProp 𝕄)
      ⊢ iprop((owns (c : Thread nD τ) (rowsV b h s) q X -∗ WP c (k X) Q)
          -∗ WP c (.op (.load b (Rect.unit (s := S256x256) o S8x256.size ho).toLoadRect hl) k) Q) := by
  subst e
  unfold owns
  iintro ⟨%f, %hf, Hp⟩ Hk
  subst hf
  iapply (wp_load_rect 𝒱₀ (c : Thread nD τ) none Set.univ (S := (rowsV b h s).view.set) (Finset.Subset.refl _)) $$ Hp
  iintro Hp
  iapply Hk
  iexists f
  isplitr; · ipureintro; rfl
  iexact Hp

theorem cast_back (t : FVec F S8x256 .bf16) :
    shapeCast S8x256 (shapeCast S1x8x256 t shapeCasts_S8x256_S1x8x256) shapeCasts_S1x8x256_S8x256 = t := by
  funext j
  show t (Shape.reshapeEquiv _ (Shape.reshapeEquiv _ j)) = t j
  rw [Shape.reshapeEquiv_reshapeEquiv, Shape.reshapeEquiv_self]

theorem half_written (ho) (f : Buf (Elt F) ((halfV h).view.loc (c : Thread nD τ))) (t : FVec F S8x256 .bf16) :
    ((halfV h).view.loc (c : Thread nD τ) ↦[(halfV h).view.set]{fullShare}
        (gM.access (Rect.unit (s := S2x8x256) ![h.val, 0, 0] S1x8x256.size ho)).write (Elt F) f (shapeCast S1x8x256 t shapeCasts_S8x256_S1x8x256) Finset.univ : sProp 𝕄)
      ⊢ owns (c : Thread nD τ) (halfV h) fullShare t :=
  (owns_intro (c : Thread nD τ) (halfV h) fullShare _).trans (Entails.of_eq (congrArg (fun X => (owns (c : Thread nD τ) (halfV h) fullShare X : sProp 𝕄))
    ((congrArg (fun w => shapeCast S8x256 w shapeCasts_S1x8x256_S8x256)
      (View.read_write_univ (v := gM.access (Rect.unit (s := S2x8x256) ![h.val, 0, 0] S1x8x256.size ho)) (Val := Elt F) f _)).trans (cast_back t))))
theorem rows_written (ho) (f : Buf (Elt F) ((rowsV oM h c).view.loc (c : Thread nD τ))) (t : FVec F S8x256 .bf16) :
    ((rowsV oM h c).view.loc (c : Thread nD τ) ↦[(rowsV oM h c).view.set]{fullShare}
        (oM.access (Rect.unit (s := S256x256) ![16 * c.val + 8 * h.val, 0] S8x256.size ho)).write (Elt F) f t Finset.univ : sProp 𝕄)
      ⊢ owns (c : Thread nD τ) (rowsV oM h c) fullShare t :=
  (owns_intro (c : Thread nD τ) (rowsV oM h c) fullShare _).trans (Entails.of_eq (congrArg (fun X => (owns (c : Thread nD τ) (rowsV oM h c) fullShare X : sProp 𝕄))
    (View.read_write_univ (v := oM.access (Rect.unit (s := S256x256) ![16 * c.val + 8 * h.val, 0] S8x256.size ho)) (Val := Elt F) f t)))

/-- The reduced rows are stored, read back, and stored among the rows of the result. -/
theorem step_publish (Q : PUnit → sProp 𝕄) (ho : oM.IsWhole) (hg : gM.IsWhole) {og : Fin 3 → Nat} (eg : og = ![h.val, 0, 0]) (hog) {oo : Fin 2 → Nat}
    (eo : oo = ![16 * c.val + 8 * h.val, 0]) (hoo pg po) (t : FVec F S8x256 .bf16) (k : BProg F) :
    iprop(someOf c (halfV h) ∗ someOf c (rowsV oM h c))
      ⊢ iprop(((owns (c : Thread nD τ) (halfV h) fullShare t ∗ owns (c : Thread nD τ) (rowsV oM h c) fullShare t) -∗ WP c k Q)
          -∗ WP c (opPublish oM ho gM hg og hog oo hoo pg po t k) Q) := by
  subst eg eo
  unfold opPublish
  have hset : (gM.access (Rect.unit (s := S2x8x256) ![h.val, 0, 0] S1x8x256.size hog)).set ⊆ (halfV h).view.set := Finset.subset_of_eq (View.set_reshape _ _).symm
  have hsetO : (gM.access (Rect.unit (s := S2x8x256) ![h.val, 0, 0] S1x8x256.size hog)).setOn Finset.univ ⊆ (halfV h).view.set := hset
  iintro ⟨Hg, Ho⟩ Hk
  ihave Hg := (someOf_pts c (halfV h)) $$ Hg
  icases Hg with ⟨%f, Hg⟩
  ihave Ho := (someOf_pts c (rowsV oM h c)) $$ Ho
  icases Ho with ⟨%f', Ho⟩
  iapply (wp_load_rect 𝒱₀ (c : Thread nD τ) none Set.univ (S := (halfV h).view.set) hset) $$ Hg
  iintro Hg
  iapply (wp_store 𝒱₀ (c : Thread nD τ) none Set.univ (S := (halfV h).view.set) hsetO) $$ Hg
  iintro Hg
  iapply (wp_load_rect 𝒱₀ (c : Thread nD τ) none Set.univ (S := (halfV h).view.set) hset) $$ Hg
  iintro Hg
  iapply (wp_load_rect 𝒱₀ (c : Thread nD τ) none Set.univ (S := (rowsV oM h c).view.set) (Finset.Subset.refl _)) $$ Ho
  iintro Ho
  iapply (wp_store 𝒱₀ (c : Thread nD τ) none Set.univ (S := (rowsV oM h c).view.set) (Finset.Subset.refl _)) $$ Ho
  iintro Ho
  rw [View.read_write_univ, cast_back]
  iapply Hk
  isplitl [Hg]
  · iapply (half_written c h hog f t) $$ Hg
  · iapply (rows_written c h hoo f' t) $$ Ho

theorem step_gather (Q : PUnit → sProp 𝕄) (hs : sM.IsWhole) (hr : rM.IsWhole) {Z : CellTallies nD τ sig Unit} (hZ : Above 2 Z) (x : FVec F S8x256 .f32)
    (k : FVec F S8x256 .f32 → BProg F) :
    iprop(recs m ρ K ∗ waiting c 1 h (rot c r) ∗ owesAny c Z)
      ⊢ iprop(((landed m ρ c 1 h (rot c r) ∗ owesAny c Z) -∗ WP c (k (addf x (extf .f32 (slab m ρ (rot c r) h c) bitsLt_bf16_f32))) Q)
          -∗ WP c (opGather sM hs rM hr cc0_scratch4 h c r x k) Q) := by
  unfold waiting landed opGather
  iintro H Hk
  iapply (wait_part m ρ K c 1 h (rot c r) (rot_ne c r) (show semAt cc0_scratch4 _ (offPeer_inb h c r) = _ from semAt_eq 1 h (rot c r) (offPeer_eq h c r) _)
    (credit_slot _ _ _) (le_of_eq (lv_one h _)) hZ Q) $$ H
  iintro ⟨⟨Hx, Ha⟩, HO⟩
  ihave Hx := (Entails.of_eq (show xferPay m ρ c (1 : Fin 4).val h (rot c r) = owns (c : Thread nD τ) (slotV h (rot c r)) fullShare (slab m ρ (rot c r) h c) from rfl)) $$ Hx
  iapply (load_slot c h (rot c r) Q (offLoadPeer_eq h c r) _ fullShare (slab m ρ (rot c r) h c) x k) $$ [Hx]
  · iexact Hx
  iintro Hx
  iapply Hk
  isplitl [Hx Ha]
  · isplitl [Hx]
    · iapply (Entails.of_eq (show owns (c : Thread nD τ) (slotV h (rot c r)) fullShare (slab m ρ (rot c r) h c) = xferPay m ρ c (1 : Fin 4).val h (rot c r) from rfl)) $$ Hx
    iexact Ha
  iexact HO

end Cert.AllReduce

end
-- ==== Proof.Loops.lean ====
/- The loops of the kernel, each run from its step, and the reduction of one half. -/
module

public import proofs.«01_k».proof.Proof.Ops

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem ring_sep (c : Dev nD) (Φ Ψ : Dev nD → sProp 𝕄) : ring c (fun p => iprop(Φ p ∗ Ψ p)) = iprop(ring c Φ ∗ ring c Ψ) := by
  rw [← bigSep_erase, ← bigSep_erase, ← bigSep_erase, bigSep_sep']
omit [FloatOps F] in
theorem ring_mono (c : Dev nD) {Φ Ψ : Dev nD → sProp 𝕄} (h : ∀ p, Φ p ⊢ Ψ p) : ring c Φ ⊢ ring c Ψ := bigSepL_mono fun _ _ => h _

variable (m : (ℓ : Loc nD τ sig) → Buf (Elt F) ℓ) (ρ : Dev nD → PrngReg) (K : Dev nD × Ix → ℕ) (c : Dev nD)

/-- A departure's credit. -/
def gone (a : Fin 4) (h : Fin 2) (p : Dev nD) : sProp 𝕄 := cred (tallyAt (dcell c a h p) () N)

theorem loop_ring (Q : PUnit → sProp 𝕄) (Φ Ψ : Dev nD → sProp 𝕄) (g : Fin 15 → CellTallies nD τ sig Unit) (Z : CellTallies nD τ sig Unit) (f : Fin 15 → BProg F → BProg F)
    (step : ∀ r l k, iprop(recs m ρ K ∗ Φ (rot c r) ∗ owesAny c (dues g (r :: l) + Z))
      ⊢ iprop(((Ψ (rot c r) ∗ owesAny c (dues g l + Z)) -∗ WP c k Q) -∗ WP c (f r k) Q)) (k : BProg F) :
    iprop(recs m ρ K ∗ ring c Φ ∗ owesAny c (dues g dists + Z)) ⊢ iprop(((ring c Ψ ∗ owesAny c Z) -∗ WP c k Q) -∗ WP c (each f dists k) Q) := by
  have H := each_rule (recs m ρ K) (fun r => Φ (rot c r)) (fun r => Ψ (rot c r)) (fun l => owesAny c (dues g l + Z)) f step dists k
  rw [dues_nil] at H
  exact H

theorem loop_announce (Q : PUnit → sProp 𝕄) (Z : CellTallies nD τ sig Unit) (k : BProg F) :
    iprop(recs m ρ K ∗ ring c (fun p => iprop(dutyTok ER (barCell p) 0 c ∗ barPay p c)) ∗ owesAny c (dues (fBar c) dists + Z))
      ⊢ iprop(((ring c (fun _ => iprop(emp)) ∗ owesAny c Z) -∗ WP c k Q) -∗ WP c (each (opAnnounce c) dists k) Q) :=
  loop_ring m ρ K c Q _ _ _ Z _ (fun r l k => step_announce m ρ K c Z Q r l k) k

variable (h : Fin 2)

theorem loop_scatter (Q : PUnit → sProp 𝕄) (hs : sM.IsWhole) (hr : rM.IsWhole) (Z : CellTallies nD τ sig Unit) (k : BProg F) :
    iprop(recs m ρ K ∗ ring c (fun p => iprop(owns (c : Thread nD τ) (rowsV sM h p) fullShare (slab m ρ c h p) ∗ someOf p (slotV h c) ∗ sendToks c 0 1 h p))
          ∗ owesAny c (dues (fX c 1 h) dists + Z))
      ⊢ iprop(((ring c (gone c 0 h) ∗ owesAny c Z) -∗ WP c k Q) -∗ WP c (each (opScatter sM hs rM hr cc0_scratch3 cc0_scratch4 h c) dists k) Q) :=
  loop_ring m ρ K c Q _ _ _ Z _ (fun r l k => step_scatter m ρ K c h r Q hs hr Z l k) k

theorem loop_broadcast (Q : PUnit → sProp 𝕄) (ho : oM.IsWhole) (hg : gM.IsWhole) (Z : CellTallies nD τ sig Unit) (k : BProg F) :
    iprop(recs m ρ K ∗ ring c (fun p => iprop(owns (c : Thread nD τ) (halfV h) (ShareLeaves.leaf 4 fullShare p) (red m ρ c h) ∗ someOf p (rowsV oM h c) ∗ sendToks c 2 3 h p))
          ∗ owesAny c (dues (fX c 3 h) dists + Z))
      ⊢ iprop(((ring c (gone c 2 h) ∗ owesAny c Z) -∗ WP c k Q) -∗ WP c (each (opBroadcast oM ho gM hg cc0_scratch5 cc0_scratch6 h c) dists k) Q) :=
  loop_ring m ρ K c Q _ _ _ Z _ (fun r l k => step_broadcast m ρ K c h r Q ho hg Z l k) k

/-- A loop of waits, whichever wait it repeats. -/
theorem loop_wait (Q : PUnit → sProp 𝕄) (a : Fin 4) (f : Fin 15 → BProg F → BProg F)
    (step : ∀ r k, iprop(recs m ρ K ∗ waiting c a h (rot c r) ∗ owesAny c 0)
      ⊢ iprop(((landed m ρ c a h (rot c r) ∗ owesAny c 0) -∗ WP c k Q) -∗ WP c (f r k) Q)) (k : BProg F) :
    iprop(recs m ρ K ∗ ring c (waiting c a h) ∗ owesAny c 0)
      ⊢ iprop(((ring c (landed m ρ c a h) ∗ owesAny c 0) -∗ WP c k Q) -∗ WP c (each f dists k) Q) :=
  each_rule (recs m ρ K) (fun r => waiting c a h (rot c r)) (fun r => landed m ρ c a h (rot c r)) (fun _ => owesAny c 0) f
    (fun r _ k => step r k) dists k

theorem loop_gather (Q : PUnit → sProp 𝕄) (hs : sM.IsWhole) (hr : rM.IsWhole) {Z : CellTallies nD τ sig Unit} (hZ : Above 2 Z) (x : FVec F S8x256 .f32)
    (k : FVec F S8x256 .f32 → BProg F) :
    iprop(recs m ρ K ∗ ring c (waiting c 1 h) ∗ owesAny c Z)
      ⊢ iprop(((ring c (landed m ρ c 1 h) ∗ owesAny c Z) -∗ WP c (k (accum m ρ c h dists x)) Q)
          -∗ WP c (carry (opGather sM hs rM hr cc0_scratch4 h c) dists x k) Q) :=
  carry_rule (recs m ρ K) (fun r => waiting c 1 h (rot c r)) (fun r => landed m ρ c 1 h (rot c r)) (owesAny c Z)
    (opGather sM hs rM hr cc0_scratch4 h c) (fun a r => addf a (extf .f32 (slab m ρ (rot c r) h c) bitsLt_bf16_f32))
    (fun r x k => step_gather m ρ K c h r Q hs hr hZ x k) dists x k

/-- The half of the reduced rows, shared out: a leaf for each device. -/
theorem deal_half (X : S8x256.Idx → Elt F .bf16) : (owns (c : Thread nD τ) (halfV h) fullShare X : sProp 𝕄)
    ⊢ iprop(owns (c : Thread nD τ) (halfV h) (ShareLeaves.leaf 4 fullShare c) X ∗ ring c fun p => owns (c : Thread nD τ) (halfV h) (ShareLeaves.leaf 4 fullShare p) X) :=
  (deal_leaves 4 c (halfV h) X).trans (Entails.of_eq (bigSep_dev c fun p : Dev nD => (owns (c : Thread nD τ) (halfV h) (ShareLeaves.leaf 4 fullShare p) X : sProp 𝕄)))

/-- What the reduction of half `h` starts from: this device's own rows of its addend, the right to wait for the others', room
    for the reduced rows here and at every peer, and the tokens to send them. -/
def redIn : sProp 𝕄 :=
  iprop(owns (c : Thread nD τ) (rowsV sM h c) fullShare (slab m ρ c h c) ∗ ring c (waiting c 1 h) ∗ (someOf c (halfV h) ∗ someOf c (rowsV oM h c))
    ∗ ring c (fun p => someOf p (rowsV oM h c)) ∗ ring c (sendToks c 2 3 h))
/-- What it leaves: the reduced rows published here, one leaf of their buffer kept, the others given to the departures. -/
def redOut : sProp 𝕄 :=
  iprop(owns (c : Thread nD τ) (rowsV sM h c) fullShare (slab m ρ c h c) ∗ ring c (landed m ρ c 1 h)
    ∗ owns (c : Thread nD τ) (halfV h) (ShareLeaves.leaf 4 fullShare c) (red m ρ c h) ∗ owns (c : Thread nD τ) (rowsV oM h c) fullShare (red m ρ c h)
    ∗ ring c (gone c 2 h))

theorem run_reduce (Q : PUnit → sProp 𝕄) (ho : oM.IsWhole) (hs : sM.IsWhole) (hr : rM.IsWhole) (hg : gM.IsWhole) (Z : CellTallies nD τ sig Unit)
    (hZ : Above 2 (dues (fX c 3 h) dists + Z)) (k : BProg F) :
    iprop(recs m ρ K ∗ redIn m ρ c h ∗ owesAny c (dues (fX c 3 h) dists + Z))
      ⊢ iprop(((redOut m ρ c h ∗ owesAny c Z) -∗ WP c k Q) -∗ WP c (opReduce oM ho sM hs rM hr gM hg cc0_scratch4 cc0_scratch5 cc0_scratch6 h c k) Q) := by
  unfold redIn redOut opReduce
  iintro ⟨#HR, ⟨Hs, Hw, Hroom, Hpeer, Htok⟩, HO⟩ Hk
  iapply (load_rows c h sM c Q (k0_off8_eq c h) _ fullShare (slab m ρ c h c)) $$ Hs
  iintro Hs
  iapply (loop_gather m ρ K c h Q hs hr hZ) $$ [Hw HO]
  · isplitr; · iexact HR
    isplitl [Hw]; · iexact Hw
    iexact HO
  iintro ⟨Hl, HO⟩
  iapply (step_publish c h Q ho hg (offHalf_eq h) _ (k0_off8_eq c h) _ _ _ (red m ρ c h)) $$ Hroom
  iintro ⟨Hg, Ho⟩
  ihave Hg := (deal_half c h (red m ρ c h)) $$ Hg
  icases Hg with ⟨Hkeep, Hg⟩
  ihave HA := (Entails.of_eq ((congrArg (fun P : sProp 𝕄 => iprop(ring c (fun p => owns (c : Thread nD τ) (halfV h) (ShareLeaves.leaf 4 fullShare p) (red m ρ c h)) ∗ P))
      (ring_sep c (fun p => someOf p (rowsV oM h c)) (sendToks c 2 3 h)).symm).trans
      (ring_sep c (fun p => owns (c : Thread nD τ) (halfV h) (ShareLeaves.leaf 4 fullShare p) (red m ρ c h)) (fun p => iprop(someOf p (rowsV oM h c) ∗ sendToks c 2 3 h p))).symm))
    $$ [Hg Hpeer Htok]
  · isplitl [Hg]; · iexact Hg
    isplitl [Hpeer]; · iexact Hpeer
    iexact Htok
  iapply (loop_broadcast m ρ K c h Q ho hg Z k) $$ [HA HO]
  · isplitr; · iexact HR
    isplitl [HA]; · iexact HA
    iexact HO
  iintro ⟨Hgone, HO⟩
  iapply Hk
  isplitr [HO]
  · isplitl [Hs]; · iexact Hs
    isplitl [Hl]; · iexact Hl
    isplitl [Hkeep]; · iexact Hkeep
    isplitl [Ho]; · iexact Ho
    iexact Hgone
  iexact HO

end Cert.AllReduce

end
-- ==== Proof.Body.lean ====
/- The body on one device: from what the device holds on entering to what it holds when its last wait is over. -/
module

public import proofs.«01_k».proof.Proof.Loops

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Ix → ℕ) (c : Dev nD)

/-! ## From the entry barrier on -/

/-- A table's positions at the other devices' semaphores. -/
def posAt (n : ℕ) (a : Fin 4) (h : Fin 2) : sProp 𝕄 := ring c fun p => atPos ER (dcell c a h p) n ∅ 0

theorem waiting_ring (a : Fin 4) (h : Fin 2) : (iprop(ring c (gone c a h) ∗ posAt c 0 a h) : sProp 𝕄) ⊢ ring c (waiting c a h) :=
  Entails.of_eq (ring_sep c (gone c a h) (fun p => atPos ER (dcell c a h p) 0 ∅ 0)).symm
theorem landed_ring (a : Fin 4) (h : Fin 2) : ring c (landed m ρ c a h) ⊢ iprop(ring c (xferPay m ρ c a.val h) ∗ posAt c 1 a h) :=
  Entails.of_eq (ring_sep c (xferPay m ρ c a.val h) (fun p => atPos ER (dcell c a h p) 1 ∅ 0))

/-- What the rest of the body needs for half `h`. -/
def coreIn (h : Fin 2) : sProp 𝕄 :=
  iprop(ring c (fun p => iprop(owns (c : Thread nD τ) (rowsV sM h p) fullShare (slab m ρ c h p) ∗ someOf p (slotV h c) ∗ sendToks c 0 1 h p))
    ∗ redIn m ρ c h ∗ posAt c 0 0 h ∗ posAt c 0 2 h ∗ ring c (waiting c 3 h))
/-- What it leaves. -/
def coreOut (h : Fin 2) : sProp 𝕄 :=
  iprop((owns (c : Thread nD τ) (rowsV sM h c) fullShare (slab m ρ c h c) ∗ owns (c : Thread nD τ) (halfV h) (ShareLeaves.leaf 4 fullShare c) (red m ρ c h)
      ∗ owns (c : Thread nD τ) (rowsV oM h c) fullShare (red m ρ c h))
    ∗ ring c (landed m ρ c 0 h) ∗ ring c (landed m ρ c 1 h) ∗ ring c (landed m ρ c 2 h) ∗ ring c (landed m ρ c 3 h))

/-- The waits for the end of the transfers. -/
theorem run_finish (Q : PUnit → sProp 𝕄) (ho : oM.IsWhole) (hs : sM.IsWhole) (hr : rM.IsWhole) (hg : gM.IsWhole) :
    iprop(recs m ρ K ∗ ((ring c (waiting c 0 0) ∗ ring c (waiting c 0 1)) ∗ (ring c (waiting c 2 0) ∗ ring c (waiting c 2 1)) ∗ (ring c (waiting c 3 0) ∗ ring c (waiting c 3 1)))
        ∗ owesAny c 0)
      ⊢ iprop(((((ring c (landed m ρ c 0 0) ∗ ring c (landed m ρ c 0 1)) ∗ (ring c (landed m ρ c 2 0) ∗ ring c (landed m ρ c 2 1))
              ∗ (ring c (landed m ρ c 3 0) ∗ ring c (landed m ρ c 3 1))) ∗ owesAny c 0) -∗ Q ⟨⟩)
          -∗ WP c (opFinish oM ho sM hs rM hr gM hg cc0_scratch3 cc0_scratch5 cc0_scratch6 c) Q) := by
  unfold opFinish
  iintro ⟨#HR, ⟨⟨A0, A1⟩, ⟨B0, B1⟩, ⟨C0, C1⟩⟩, HO⟩ Hk
  iapply (loop_wait m ρ K c 0 Q 3 (opCollect oM ho gM hg cc0_scratch6 0 c) (fun r k => step_collect m ρ K c 0 r Q ho hg [] k)) $$ [C0 HO]
  · isplitr; · iexact HR
    isplitl [C0] <;> iassumption
  iintro ⟨C0, HO⟩
  iapply (loop_wait m ρ K c 1 Q 3 (opCollect oM ho gM hg cc0_scratch6 1 c) (fun r k => step_collect m ρ K c 1 r Q ho hg [] k)) $$ [C1 HO]
  · isplitr; · iexact HR
    isplitl [C1] <;> iassumption
  iintro ⟨C1, HO⟩
  iapply (loop_wait m ρ K c 0 Q 0 (opDrainScatter sM hs rM hr cc0_scratch3 0 c) (fun r k => step_drain_scatter m ρ K c 0 r Q hs hr [] k)) $$ [A0 HO]
  · isplitr; · iexact HR
    isplitl [A0] <;> iassumption
  iintro ⟨A0, HO⟩
  iapply (loop_wait m ρ K c 1 Q 0 (opDrainScatter sM hs rM hr cc0_scratch3 1 c) (fun r k => step_drain_scatter m ρ K c 1 r Q hs hr [] k)) $$ [A1 HO]
  · isplitr; · iexact HR
    isplitl [A1] <;> iassumption
  iintro ⟨A1, HO⟩
  iapply (loop_wait m ρ K c 0 Q 2 (opDrainBroadcast oM ho gM hg cc0_scratch5 0 c) (fun r k => step_drain_broadcast m ρ K c 0 r Q ho hg [] k)) $$ [B0 HO]
  · isplitr; · iexact HR
    isplitl [B0] <;> iassumption
  iintro ⟨B0, HO⟩
  iapply (loop_wait m ρ K c 1 Q 2 (opDrainBroadcast oM ho gM hg cc0_scratch5 1 c) (fun r k => step_drain_broadcast m ρ K c 1 r Q ho hg [] k)) $$ [B1 HO]
  · isplitr; · iexact HR
    isplitl [B1] <;> iassumption
  iintro ⟨B1, HO⟩
  unfold WP
  rw [wp_ret]; imodintro
  iapply Hk
  isplitr [HO]
  · isplitl [A0 A1]
    · isplitl [A0] <;> iassumption
    isplitl [B0 B1]
    · isplitl [B0] <;> iassumption
    isplitl [C0] <;> iassumption
  iexact HO

theorem run_core (Q : PUnit → sProp 𝕄) (ho : oM.IsWhole) (hs : sM.IsWhole) (hr : rM.IsWhole) (hg : gM.IsWhole) :
    iprop(recs m ρ K ∗ (coreIn m ρ c 0 ∗ coreIn m ρ c 1) ∗ owesAny c (Z1 c))
      ⊢ iprop((((coreOut m ρ c 0 ∗ coreOut m ρ c 1) ∗ owesAny c 0) -∗ Q ⟨⟩)
          -∗ WP c (each (opScatter sM hs rM hr cc0_scratch3 cc0_scratch4 0 c) dists <| each (opScatter sM hs rM hr cc0_scratch3 cc0_scratch4 1 c) dists <|
              opReduce oM ho sM hs rM hr gM hg cc0_scratch4 cc0_scratch5 cc0_scratch6 0 c <| opReduce oM ho sM hs rM hr gM hg cc0_scratch4 cc0_scratch5 cc0_scratch6 1 c <|
              opFinish oM ho sM hs rM hr gM hg cc0_scratch3 cc0_scratch5 cc0_scratch6 c) Q) := by
  unfold coreIn coreOut
  iintro ⟨#HR, ⟨⟨S0, R0, P0, G0, W0⟩, ⟨S1, R1, P1, G1, W1⟩⟩, HO⟩ Hk
  iapply (loop_scatter m ρ K c 0 Q hs hr (Z2 c)) $$ [S0 HO]
  · isplitr; · iexact HR
    isplitl [S0]; · iexact S0
    iexact HO
  iintro ⟨S0, HO⟩
  iapply (loop_scatter m ρ K c 1 Q hs hr (Z3 c)) $$ [S1 HO]
  · isplitr; · iexact HR
    isplitl [S1]; · iexact S1
    iexact HO
  iintro ⟨S1, HO⟩
  iapply (run_reduce m ρ K c 0 Q ho hs hr hg (Z4 c) (above_Z3 c)) $$ [R0 HO]
  · isplitr; · iexact HR
    isplitl [R0]; · iexact R0
    iexact HO
  iintro ⟨R0, HO⟩
  iapply (run_reduce m ρ K c 1 Q ho hs hr hg 0 (above_Z4 c)) $$ [R1 HO]
  · isplitr; · iexact HR
    isplitl [R1]; · iexact R1
    iexact HO
  iintro ⟨R1, HO⟩
  unfold redOut
  icases R0 with ⟨R0s, R0l, R0g, R0o, R0c⟩
  icases R1 with ⟨R1s, R1l, R1g, R1o, R1c⟩
  iapply (run_finish m ρ K c Q ho hs hr hg) $$ [S0 P0 S1 P1 R0c G0 R1c G1 W0 W1 HO]
  · isplitr; · iexact HR
    isplitr [HO]
    · isplitl [S0 P0 S1 P1]
      · isplitl [S0 P0]
        · iapply (waiting_ring (F := F) c 0 0); isplitl [S0] <;> iassumption
        · iapply (waiting_ring (F := F) c 0 1); isplitl [S1] <;> iassumption
      isplitl [R0c G0 R1c G1]
      · isplitl [R0c G0]
        · iapply (waiting_ring (F := F) c 2 0); isplitl [R0c] <;> iassumption
        · iapply (waiting_ring (F := F) c 2 1); isplitl [R1c] <;> iassumption
      isplitl [W0] <;> iassumption
    iexact HO
  iintro ⟨⟨⟨A0, A1⟩, ⟨B0, B1⟩, ⟨C0, C1⟩⟩, HO⟩
  iapply Hk
  isplitr [HO]
  · isplitl [R0s R0g R0o R0l A0 B0 C0]
    · isplitl [R0s R0g R0o]
      · isplitl [R0s]; · iexact R0s
        isplitl [R0g] <;> iassumption
      isplitl [A0]; · iexact A0
      isplitl [R0l]; · iexact R0l
      isplitl [B0] <;> iassumption
    · isplitl [R1s R1g R1o]
      · isplitl [R1s]; · iexact R1s
        isplitl [R1g] <;> iassumption
      isplitl [A1]; · iexact A1
      isplitl [R1l]; · iexact R1l
      isplitl [B1] <;> iassumption
  iexact HO

/-! ## The entry barrier -/

theorem step_barrier (Q : PUnit → sProp 𝕄) {Z : CellTallies nD τ sig Unit} (hZ : Above 1 Z) (k : PUnit → BProg F) :
    iprop(recs m ρ K ∗ (cred (tallyAt (barCell c) () 15) ∗ atPos ER (barCell c) 0 ∅ 0) ∗ owesAny c Z)
      ⊢ iprop((((ring c (fun p => barPay c p) ∗ atPos ER (barCell c) 1 ∅ 0) ∗ owesAny c Z) -∗ WP c (k ⟨⟩) Q)
          -∗ WP c (.op (.semWait (sig.barrier 0 rfl) ((15#32 : BitVec 32).toNat)) k) Q) := by
  unfold owesAny
  iintro ⟨#HR, ⟨Hc, Ha⟩, ⟨%W, HO⟩⟩ Hk
  ihave Hb := (recs_bar m ρ K c) $$ HR
  icases Hb with ⟨#HI, -⟩
  iapply (Rounds.wp_wait_rest_token 𝒱₀ ER (Rd m ρ) (c : Thread nD τ) none (κ := K (c, none)) (k' := 15)
      (wpE_semWait_eq 𝒱₀ (c : Thread nD τ) none Set.univ) (Set.mem_univ _) () (O := Z)
      (W := W) (R := 0) (m := 0) (T := ∅) (by rw [expect_bar])) $$ [Hc HO Ha]
  · isplitr; · iexact HI
    isplitl [Hc]; · iexact Hc
    isplitl [HO]; · iexact HO
    isplitr; · iapply (recs_mayWait m ρ K c (.reg barS) (Nat.le_refl 1) hZ) $$ HR
    iexact Ha
  iintro ⟨HO, Ha, -, Hp⟩
  ihave Hp' := (Entails.of_eq (rest_bar m ρ c)) $$ Hp
  iapply Hk
  isplitl [Ha Hp']
  · isplitl [Hp'] <;> iassumption
  iexists _; iexact HO

theorem zero3 : (![0, 0, 0] : Fin 3 → Nat) = fun _ => 0 := funext fun a => by fin_cases a <;> rfl
theorem zero2 : (![0, 0] : Fin 2 → Nat) = fun _ => 0 := funext fun a => by fin_cases a <;> rfl

/-! ## The whole body -/

omit [FloatOps F] in
/-- The parts of a buffer cut by half and device: for each half this device's and the others'. -/
theorem by_half (Φ : Fin 2 → Dev nD → sProp 𝕄) : bigSep Finset.univ (fun x : HD => Φ x.1 x.2)
    = iprop((Φ 0 c ∗ ring c (Φ 0)) ∗ (Φ 1 c ∗ ring c (Φ 1))) := by
  rw [bigSep_univ_prod, bigSep_two, bigSep_dev c (fun p => Φ (0, p).1 (0, p).2), bigSep_dev c (fun p => Φ (1, p).1 (1, p).2)]
omit [FloatOps F] in
theorem ring_four (A B C D : Dev nD → sProp 𝕄) : ring c (fun p => iprop((A p ∗ B p) ∗ (C p ∗ D p)))
    = iprop((ring c A ∗ ring c B) ∗ (ring c C ∗ ring c D)) := by
  rw [ring_sep c (fun p => iprop(A p ∗ B p)) (fun p => iprop(C p ∗ D p)), ring_sep c A B, ring_sep c C D]

/-- A buffer of device `c` at some contents. -/
def whole (b : Ref sig .tc) : sProp 𝕄 := iprop(∃ f : Buf (Elt F) ((c : Thread nD τ).loc b), ((c : Thread nD τ).loc b) ↦{fullShare} f)

/-- The positions and tokens of half `h`. -/
def linHalf (h : Fin 2) : sProp 𝕄 :=
  iprop((posAt c 0 0 h ∗ posAt c 0 1 h ∗ posAt c 0 2 h ∗ posAt c 0 3 h) ∗ ring c (sendToks c 0 1 h) ∗ ring c (sendToks c 2 3 h))
/-- The credits of half `h`'s arrivals. -/
def credHalf (h : Fin 2) : sProp 𝕄 := iprop(ring c (gone c 1 h) ∗ ring c (gone c 3 h))
/-- What a device's own protocol records are at the start, but for the semaphores no transfer uses. -/
def linear : sProp 𝕄 := iprop(atPos ER (barCell c) 0 ∅ 0 ∗ ring c (fun p => dutyTok ER (barCell p) 0 c) ∗ linHalf c 0 ∗ linHalf c 1)
def creds : sProp 𝕄 := iprop(cred (tallyAt (barCell c) () 15) ∗ credHalf c 0 ∗ credHalf c 1)

def bodyIn : sProp 𝕄 :=
  iprop((((c : Thread nD τ).loc cc0_stg0_0) ↦{fullShare} xstg m ρ c) ∗ (whole c cc0_stg1_0 ∗ whole c cc0_scratch0 ∗ whole c cc0_scratch1 ∗ whole c cc0_scratch2)
    ∗ linear c ∗ creds c)
def bodyOut : sProp 𝕄 :=
  iprop((((c : Thread nD τ).loc cc0_stg0_0) ↦{fullShare} xstg m ρ c) ∗ (someOf c (slotV 0 c) ∗ someOf c (slotV 1 c)) ∗ atPos ER (barCell c) 1 ∅ 0
    ∗ coreOut m ρ c 0 ∗ coreOut m ρ c 1)

theorem core_intro (h : Fin 2) :
    iprop((owns (c : Thread nD τ) (rowsV sM h c) fullShare (slab m ρ c h c) ∗ ring c (fun p => owns (c : Thread nD τ) (rowsV sM h p) fullShare (slab m ρ c h p)))
        ∗ (someOf c (halfV h) ∗ someOf c (rowsV oM h c)) ∗ (ring c (fun p => someOf p (slotV h c)) ∗ ring c (fun p => someOf p (rowsV oM h c)))
        ∗ linHalf c h ∗ credHalf c h) ⊢ coreIn m ρ c h := by
  unfold linHalf credHalf coreIn redIn
  iintro ⟨⟨S, Ss⟩, HG, ⟨Hsl, Hro⟩, ⟨⟨P0, P1, P2, P3⟩, T1, T2⟩, ⟨C1, C3⟩⟩
  isplitl [Ss Hsl T1]
  · rw [ring_sep c (fun p => owns (c : Thread nD τ) (rowsV sM h p) fullShare (slab m ρ c h p)) (fun p => iprop(someOf p (slotV h c) ∗ sendToks c 0 1 h p)),
      ring_sep c (fun p => someOf p (slotV h c)) (sendToks c 0 1 h)]
    isplitl [Ss]; · iexact Ss
    isplitl [Hsl] <;> iassumption
  isplitl [S HG Hro T2 C1 P1]
  · isplitl [S]; · iexact S
    isplitl [C1 P1]
    · iapply (waiting_ring (F := F) c 1 h); isplitl [C1] <;> iassumption
    isplitl [HG]; · iexact HG
    isplitl [Hro] <;> iassumption
  isplitl [P0]; · iexact P0
  isplitl [P2]; · iexact P2
  iapply (waiting_ring (F := F) c 3 h); isplitl [C3] <;> iassumption

theorem read_x (f : (cc0_stg0_0 : Ref sig .tc).ty.Contents (Elt F)) (hb) :
    xM.view.readAt (Elt F) (Rect.unit (s := S1x256x256) ![0, 0, 0] S1x256x256.size hb).toLoadRect f = f :=
  Memref.readAt_unit_zero (Elt F) cc0_stg0_0 zero3 _ f
theorem write_send (f w : (cc0_scratch0 : Ref sig .tc).ty.Contents (Elt F)) (hb) :
    (sM.access (Rect.unit (s := S256x256) ![0, 0] S256x256.size hb) : View sig .tc _ _ _).write (Elt F) f w Finset.univ = w :=
  Memref.write_access_unit_zero_univ (Elt F) cc0_scratch0 zero2 _ f w

theorem run_body (Q : PUnit → sProp 𝕄) (hx : xM.IsWhole) (ho : oM.IsWhole) (hs : sM.IsWhole) (hr : rM.IsWhole) (hg : gM.IsWhole) :
    iprop(recs m ρ K ∗ bodyIn m ρ c ∗ owesAny c (O₀ c))
      ⊢ iprop(((bodyOut m ρ c ∗ owesAny c 0) -∗ Q ⟨⟩)
          -∗ WP c (folded xM oM ho sM hs rM hr gM hg cc0_scratch3 cc0_scratch4 cc0_scratch5 cc0_scratch6) Q) := by
  unfold folded
  simp only [WP, wp_deviceId]
  unfold bodyIn linear creds whole
  iintro ⟨#HR, ⟨Hx, ⟨⟨%fo, Ho⟩, ⟨%fs, Hs⟩, ⟨%fr, Hr⟩, ⟨%fg, Hg⟩⟩, ⟨Hb, Htb, HL0, HL1⟩, ⟨Hcb, HC0, HC1⟩⟩, HO⟩ Hk
  -- the places the peers write, handed over with the entry signals
  ihave Hr := ((cut_slots c fr).trans (Entails.of_eq (by_half c fun h p => someOf c (slotV h p)))) $$ Hr
  icases Hr with ⟨⟨Hr0, Hrs0⟩, ⟨Hr1, Hrs1⟩⟩
  ihave Ho := ((cut_out c fo).trans (Entails.of_eq (by_half c fun h p => someOf c (rowsV oM h p)))) $$ Ho
  icases Ho with ⟨⟨Ho0, Hos0⟩, ⟨Ho1, Hos1⟩⟩
  ihave Hg := ((cut_halves c fg).trans (Entails.of_eq (bigSep_two fun h => someOf c (halfV h)))) $$ Hg
  icases Hg with ⟨Hg0, Hg1⟩
  ihave HB := (Entails.of_eq (ring_four c (fun p => someOf c (slotV 0 p)) (fun p => someOf c (slotV 1 p)) (fun p => someOf c (rowsV oM 0 p))
    (fun p => someOf c (rowsV oM 1 p))).symm) $$ [Hrs0 Hrs1 Hos0 Hos1]
  · isplitl [Hrs0 Hrs1]
    · isplitl [Hrs0] <;> iassumption
    isplitl [Hos0] <;> iassumption
  iapply (loop_announce m ρ K c Q (Z1 c)) $$ [HB Htb HO]
  · isplitr; · iexact HR
    isplitr [HO]
    · iapply (Entails.of_eq (ring_sep c (fun p => dutyTok ER (barCell p) 0 c) (fun p => barPay p c)).symm)
      isplitl [Htb]; · iexact Htb
      iexact HB
    iexact HO
  iintro ⟨-, HO⟩
  -- the addend without its unit axis
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := Rect.unit (s := S256x256) ![0, 0] S256x256.size inb_S256x256_S256x256_0_0) (Mk := Finset.univ) (Finset.subset_univ _)) $$ Hs; iintro Hs
  rw [write_send]
  ihave Hs := (show ((sM.access (Rect.unit (s := S256x256) ![0, 0] S256x256.size inb_S256x256_S256x256_0_0)).loc (c : Thread nD τ) ↦{fullShare} k0_pay1 (xstg m ρ c) : sProp 𝕄)
    ⊢ (((c : Thread nD τ).loc cc0_scratch0) ↦{fullShare} sendC m ρ c) from .rfl) $$ Hs
  ihave Hs := ((cut_send m ρ c).trans (Entails.of_eq (by_half c fun h p => owns (c : Thread nD τ) (rowsV sM h p) fullShare (slab m ρ c h p)))) $$ Hs
  icases Hs with ⟨Hs0, Hs1⟩
  -- every peer has entered
  iapply (step_barrier m ρ K c Q (above_Z1 c)) $$ [Hcb Hb HO]
  · isplitr; · iexact HR
    isplitl [Hcb Hb]
    · isplitl [Hcb] <;> iassumption
    iexact HO
  iintro ⟨⟨Hp, Hb⟩, HO⟩
  ihave Hp := (show (ring c (fun p => barPay c p) : sProp 𝕄) ⊢ _ from Entails.of_eq (ring_four c (fun p => someOf p (slotV 0 c)) (fun p => someOf p (slotV 1 c)) (fun p => someOf p (rowsV oM 0 c))
    (fun p => someOf p (rowsV oM 1 c)))) $$ Hp
  icases Hp with ⟨⟨Hps0, Hps1⟩, ⟨Hpo0, Hpo1⟩⟩
  iapply (run_core m ρ K c Q ho hs hr hg) $$ [Hs0 Hs1 Hg0 Hg1 Ho0 Ho1 Hps0 Hps1 Hpo0 Hpo1 HL0 HL1 HC0 HC1 HO]
  · isplitr; · iexact HR
    isplitr [HO]
    · isplitl [Hs0 Hg0 Ho0 Hps0 Hpo0 HL0 HC0]
      · iapply (core_intro m ρ c 0)
        isplitl [Hs0]; · iexact Hs0
        isplitl [Hg0 Ho0]; · isplitl [Hg0] <;> iassumption
        isplitl [Hps0 Hpo0]; · isplitl [Hps0] <;> iassumption
        isplitl [HL0] <;> iassumption
      · iapply (core_intro m ρ c 1)
        isplitl [Hs1]; · iexact Hs1
        isplitl [Hg1 Ho1]; · isplitl [Hg1] <;> iassumption
        isplitl [Hps1 Hpo1]; · isplitl [Hps1] <;> iassumption
        isplitl [HL1] <;> iassumption
    iexact HO
  iintro ⟨⟨H0, H1⟩, HO⟩
  iapply Hk
  unfold bodyOut
  isplitr [HO]
  · isplitl [Hx]; · iexact Hx
    isplitl [Hr0 Hr1]; · isplitl [Hr0] <;> iassumption
    isplitl [Hb]; · iexact Hb
    isplitl [H0] <;> iassumption
  iexact HO

end Cert.AllReduce

end
-- ==== Proof.Exit.lean ====
/- What one device holds when its last wait is over: the buffers put together again, the result among them, and the
   semaphores closed. -/
module

public import proofs.«01_k».proof.Proof.Body

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Ix → ℕ) (c : Dev nD)

/-! ## One half -/

/-- The positions of half `h`, after `n` rounds. -/
def posHalf (n : ℕ) (h : Fin 2) : sProp 𝕄 := iprop(posAt c n 0 h ∗ posAt c n 1 h ∗ posAt c n 2 h ∗ posAt c n 3 h)

def halfOut (h : Fin 2) : sProp 𝕄 :=
  iprop((owns (c : Thread nD τ) (rowsV oM h c) fullShare (red m ρ c h) ∗ ring c (fun p => owns (c : Thread nD τ) (rowsV oM h p) fullShare (red m ρ p h)))
    ∗ (someOf c (rowsV sM h c) ∗ ring c (fun p => someOf c (rowsV sM h p))) ∗ (ring c (fun p => someOf c (slotV h p)) ∗ someOf c (halfV h)) ∗ posHalf c 1 h)

/-- Some contents for a buffer. -/
abbrev anyF {s : Shape} : s.Idx → Elt F .bf16 := fun _ => slab m ρ c 0 c (fun a => ⟨0, match a with | 0 => by decide | 1 => by decide⟩)

theorem half_exit (h : Fin 2) : coreOut m ρ c h ⊢ halfOut m ρ c h := by
  unfold coreOut halfOut posHalf
  iintro ⟨⟨S, G, O⟩, L0, L1, L2, L3⟩
  ihave L0 := (landed_ring m ρ c 0 h) $$ L0
  ihave L1 := (landed_ring m ρ c 1 h) $$ L1
  ihave L2 := (landed_ring m ρ c 2 h) $$ L2
  ihave L3 := (landed_ring m ρ c 3 h) $$ L3
  icases L0 with ⟨A0, P0⟩
  icases L1 with ⟨A1, P1⟩
  icases L2 with ⟨A2, P2⟩
  icases L3 with ⟨A3, P3⟩
  isplitl [O A3]
  · isplitl [O]; · iexact O
    iexact A3
  isplitl [S A0]
  · isplitl [S]; · iapply (someOf_intro c (rowsV sM h c) (slab m ρ c h c)); iexact S
    iapply (ring_mono c fun p => someOf_intro c (rowsV sM h p) (slab m ρ c h p)); iexact A0
  isplitl [G A1 A2]
  · isplitl [A1]
    · iapply (ring_mono c fun p => someOf_intro c (slotV h p) (slab m ρ p h c)); iexact A1
    · iapply (((Entails.of_eq (bigSep_dev c fun p => owns (c : Thread nD τ) (halfV h) (ShareLeaves.leaf 4 fullShare p) (red m ρ c h)).symm).trans
        (pool_leaves 4 c (halfV h) (anyF m ρ c) (red m ρ c h))).trans (someOf_intro c (halfV h) (red m ρ c h)))
      isplitl [G]; · iexact G
      iexact A2
  isplitl [P0]; · iexact P0
  isplitl [P1]; · iexact P1
  isplitl [P2] <;> iassumption

/-! ## The whole -/

/-- The buffers at the end, and the positions. -/
def memOut : sProp 𝕄 :=
  iprop((((c : Thread nD τ).loc cc0_stg0_0) ↦{fullShare} xstg m ρ c) ∗ (((c : Thread nD τ).loc cc0_stg1_0) ↦{fullShare} outC m ρ)
    ∗ whole c cc0_scratch0 ∗ whole c cc0_scratch1 ∗ whole c cc0_scratch2)
def posOut : sProp 𝕄 := iprop(atPos ER (barCell c) 1 ∅ 0 ∗ posHalf c 1 0 ∗ posHalf c 1 1)

theorem body_exit : bodyOut m ρ c ⊢ iprop(memOut m ρ c ∗ posOut c) := by
  unfold bodyOut memOut posOut whole
  iintro ⟨Hx, ⟨Hr0, Hr1⟩, Hb, H0, H1⟩
  ihave H0 := (half_exit m ρ c 0) $$ H0
  ihave H1 := (half_exit m ρ c 1) $$ H1
  unfold halfOut
  icases H0 with ⟨O0, S0, ⟨R0, G0⟩, P0⟩
  icases H1 with ⟨O1, S1, ⟨R1, G1⟩, P1⟩
  isplitr [Hb P0 P1]
  · isplitl [Hx]; · iexact Hx
    isplitl [O0 O1]
    · iapply ((Entails.of_eq (by_half c fun h p => owns (c : Thread nD τ) (rowsV oM h p) fullShare (red m ρ p h)).symm).trans (join_out m ρ c))
      isplitl [O0]; · iexact O0
      iexact O1
    isplitl [S0 S1]
    · iapply ((Entails.of_eq (by_half c fun h p => someOf c (rowsV sM h p)).symm).trans (join_send c (sendC m ρ c)))
      isplitl [S0]; · iexact S0
      iexact S1
    isplitl [Hr0 Hr1 R0 R1]
    · iapply ((Entails.of_eq (by_half c fun h p => someOf c (slotV h p)).symm).trans (join_slots c (anyF m ρ c)))
      isplitl [Hr0 R0]
      · isplitl [Hr0]; · iexact Hr0
        iexact R0
      isplitl [Hr1]; · iexact Hr1
      iexact R1
    · iapply ((Entails.of_eq (bigSep_two fun h => someOf c (halfV h)).symm).trans (join_halves c (anyF m ρ c)))
      isplitl [G0]; · iexact G0
      iexact G1
  isplitl [Hb]; · iexact Hb
  isplitl [P0] <;> iassumption

/-! ## The semaphores -/

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- A table and a half. -/
abbrev AH : Type := Fin 4 × Fin 2

omit [FloatOps F] in
/-- One resource per table and half, half by half. -/
theorem bigSep_ah (Φ : Fin 4 → Fin 2 → sProp 𝕄) : bigSep Finset.univ (fun x : AH => Φ x.1 x.2)
    = iprop((Φ 0 0 ∗ Φ 1 0 ∗ Φ 2 0 ∗ Φ 3 0) ∗ (Φ 0 1 ∗ Φ 1 1 ∗ Φ 2 1 ∗ Φ 3 1)) := by
  rw [bigSep_univ_equiv (Equiv.prodComm (Fin 2) (Fin 4)) (fun x : AH => Φ x.1 x.2), bigSep_univ_prod, bigSep_two, bigSep_fin4, bigSep_fin4]
  rfl
omit [FloatOps F] in
/-- One per transfer semaphore of a device: those no transfer uses, and the others. -/
theorem bigSep_sems (Φ : Fin 4 → Fin 2 → Dev nD → sProp 𝕄) : bigSep Finset.univ (fun x : Fin 4 × Fin 2 × Dev nD => Φ x.1 x.2.1 x.2.2)
    = iprop((bigSep Finset.univ fun x : AH => Φ x.1 x.2 c) ∗ bigSep Finset.univ fun x : AH => ring c (Φ x.1 x.2)) := by
  rw [← bigSep_sep', bigSep_univ_prod, bigSep_univ_prod]
  refine bigSep_congr fun a _ => ?_
  rw [bigSep_univ_prod]
  exact bigSep_congr fun h _ => bigSep_dev c (Φ a h)

/-- The positions at the semaphores no transfer uses. -/
def diag : sProp 𝕄 := bigSep Finset.univ fun x : AH => atPos ER (dcell c x.1 x.2 c) 0 ∅ 0

theorem close_diag (x : AH) : iprop(recs m ρ K ∗ atPos ER (dcell c x.1 x.2 c) 0 ∅ 0) ⊢ (|={Set.univ}=> semVal (dcell c x.1 x.2 c) 0 : sProp 𝕄) := by
  iintro ⟨#HR, H⟩
  ihave HI := (recs_dma m ρ K c x.1 x.2 c) $$ HR
  icases HI with ⟨#HI, -⟩
  iapply (Rounds.cell_close ER (Rd m ρ) (Set.mem_univ (K (c, some (x.1, x.2, c)))) (fun h => h) (R := 0) (duties_diag_all m ρ c x.1 x.2))
  isplitr; · iexact HI
  iexact H
theorem close_dma (a : Fin 4) (h : Fin 2) (p : Dev nD) : iprop(recs m ρ K ∗ atPos ER (dcell c a h p) 1 ∅ 0) ⊢ (|={Set.univ}=> semVal (dcell c a h p) 0 : sProp 𝕄) := by
  iintro ⟨#HR, H⟩
  ihave HI := (recs_dma m ρ K c a h p) $$ HR
  icases HI with ⟨#HI, -⟩
  iapply (Rounds.cell_close ER (Rd m ρ) (Set.mem_univ (K (c, some (a, h, p)))) (fun h => h) (R := 1) (duties_later m ρ (dcell c a h p)))
  isplitr; · iexact HI
  iexact H
theorem close_bar : iprop(recs m ρ K ∗ atPos ER (barCell c) 1 ∅ 0) ⊢ (|={Set.univ}=> semVal (barCell c) 0 : sProp 𝕄) := by
  iintro ⟨#HR, H⟩
  ihave HI := (recs_bar m ρ K c) $$ HR
  icases HI with ⟨#HI, -⟩
  iapply (Rounds.cell_close ER (Rd m ρ) (Set.mem_univ (K (c, none))) (fun h => h) (R := 1) (duties_later m ρ (barCell c)))
  isplitr; · iexact HI
  iexact H

omit [FloatOps F] in
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_ring (a : Fin 4) (h : Fin 2) : iprop(recs m ρ K ∗ posAt c 1 a h) ⊢ (|={Set.univ}=> ring c fun p => semVal (dcell c a h p) 0 : sProp 𝕄) := by
  unfold posAt
  rw [← bigSep_erase, ← bigSep_erase]
  exact (bigSep_using fun p _ => close_dma m ρ K c a h p).trans (bigSep_fupd _ _)

/-- Every counter of a device at zero. -/
def zeros : sProp 𝕄 := iprop(semVal (barCell c) 0 ∗ bigSep Finset.univ fun x : Fin 4 × Fin 2 × Dev nD => semVal (dcell c x.1 x.2.1 x.2.2) 0)

theorem close_all : iprop(recs m ρ K ∗ posOut c ∗ diag c) ⊢ (|={Set.univ}=> zeros c : sProp 𝕄) := by
  unfold posOut diag zeros
  rw [bigSep_sems c (fun a h p => semVal (dcell c a h p) 0)]
  iintro ⟨#HR, ⟨Hb, P0, P1⟩, HD⟩
  imod (close_bar m ρ K c) $$ [Hb] with Hb
  · isplitr; · iexact HR
    iexact Hb
  imod ((bigSep_using (I := AH) fun x _ => close_diag m ρ K c x).trans (bigSep_fupd _ _)) $$ [HD] with HD
  · isplitr; · iexact HR
    iexact HD
  ihave HP := (Entails.of_eq (bigSep_ah (fun a h => posAt c 1 a h)).symm) $$ [P0 P1]
  · unfold posHalf
    isplitl [P0]; · iexact P0
    iexact P1
  imod ((bigSep_using (I := AH) fun x _ => close_ring m ρ K c x.1 x.2).trans (bigSep_fupd _ _)) $$ [HP] with HP
  · isplitr; · iexact HR
    iexact HP
  imodintro
  isplitl [Hb]; · iexact Hb
  isplitl [HD]; · iexact HD
  iexact HP

end Cert.AllReduce

end
-- ==== Proof.Deal.lean ====
/- What the launch deals out: every device's semaphores opened as cells, each token given to the device that pays with it,
   and the credits of what the other devices owe. -/
module

public import proofs.«01_k».proof.Proof.Exit

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Pairs of devices -/

theorem rot_back (c : Dev nD) (r : Fin 15) : rot (rot c r) r.rev = c := Fin.ext (by
  have h1 : c.val < 16 := c.isLt
  have h2 := r.isLt
  show ((c.val + r.val + 1) % 16 + r.rev.val + 1) % 16 = c.val
  rw [Fin.val_rev]; omega)
theorem rot_inj (c : Dev nD) {r s : Fin 15} (e : rot c r = rot c s) : r = s := Fin.ext (by
  have h1 : c.val < 16 := c.isLt
  have h2 := r.isLt
  have h3 := s.isLt
  have h4 : (c.val + r.val + 1) % 16 = (c.val + s.val + 1) % 16 := congrArg Fin.val e
  omega)
/-- The pair of a device and the distance to another, seen from that other. -/
def turn : Dev nD × Fin 15 ≃ Dev nD × Fin 15 :=
  Function.Involutive.toPerm (fun x => (rot x.1 x.2, x.2.rev)) fun x => Prod.ext (rot_back x.1 x.2) (Fin.rev_rev x.2)

omit [FloatOps F] in
theorem ring_fin (c : Dev nD) (Φ : Dev nD → sProp 𝕄) : ring c Φ = bigSep Finset.univ fun r : Fin 15 => Φ (rot c r) :=
  (bigSep_univ_eq_bigSepL dists (by decide) (by decide) fun r => Φ (rot c r)).symm
omit [FloatOps F] in
/-- One resource for every ordered pair of devices, by its first or by its second. -/
theorem ring_turn (Φ : Dev nD → Dev nD → sProp 𝕄) : (bigSep Finset.univ fun c : Dev nD => ring c (Φ c)) = bigSep Finset.univ fun c : Dev nD => ring c fun p => Φ p c := by
  have e (Ψ : Dev nD → Dev nD → sProp 𝕄) : (bigSep Finset.univ fun c : Dev nD => ring c (Ψ c)) = bigSep Finset.univ fun x : Dev nD × Fin 15 => Ψ x.1 (rot x.1 x.2) := by
    rw [bigSep_univ_prod]; exact bigSep_congr fun c _ => ring_fin c (Ψ c)
  rw [e, e fun c p => Φ p c, bigSep_univ_equiv turn]
  refine bigSep_congr fun x _ => ?_
  show Φ (rot x.1 x.2) (rot (rot x.1 x.2) x.2.rev) = _
  rw [rot_back]

/-! ## The tokens -/

/-- Which duty: the peer's distance, and whether of the barrier or of which transfer. -/
abbrev TIx : Type := Option AH × Fin 15
def tokCell (c : Dev nD) (p : Dev nD) : Option AH → GSem nD τ sig
  | none => barCell c
  | some x => dcell c x.1 x.2 p
def tokOf (x : Dev nD × TIx) : GSem nD τ sig × ℕ × Dev nD := (tokCell x.1 (rot x.1 x.2.2) x.2.1, 0, rot x.1 x.2.2)
theorem tokCell_dev (c p : Dev nD) (o : Option AH) : (tokCell c p o).1.1 = c := by cases o <;> rfl
theorem tokOf_injective : Function.Injective tokOf := by
  rintro ⟨c, o, r⟩ ⟨c', o', r'⟩ e
  have e1 : c = c' := (tokCell_dev c _ o).symm.trans ((congrArg (fun x : GSem nD τ sig × ℕ × Dev nD => x.1.1.1) e).trans (tokCell_dev c' _ o'))
  subst e1
  have e2 : r = r' := rot_inj c (congrArg (fun x : GSem nD τ sig × ℕ × Dev nD => x.2.2) e)
  subst e2
  have e3 : (tokCell c (rot c r) o).2 = (tokCell c (rot c r) o').2 := congrArg (fun x : GSem nD τ sig × ℕ × Dev nD => x.1.2) e
  have e4 : o = o' := by
    cases o with
    | none => cases o' with
      | none => rfl
      | some y => cases e3
    | some x => cases o' with
      | none => cases e3
      | some y =>
        have := dsem_inj (x := (x.1, x.2, rot c r)) (y := (y.1, y.2, rot c r)) (SemLoc.dma.inj e3)
        exact congrArg some (Prod.ext (congrArg (fun z : Fin 4 × Fin 2 × Dev nD => z.1) this) (congrArg (fun z : Fin 4 × Fin 2 × Dev nD => z.2.1) this))
  subst e4; rfl

def allCells : Finset (GSem nD τ sig) := Finset.univ.map ⟨kcell, kcell_injective⟩
def allToks : Finset (GSem nD τ sig × ℕ × Dev nD) := Finset.univ.map ⟨tokOf, tokOf_injective⟩
def u₀ : UU := (initOf (Pipeline.cells cfgs cellOf_inj) (Pipeline.launchToks cfgs cellOf_inj), initOf allCells allToks)

omit [FloatOps F] in
theorem bigSep_option {A : Type} [Fintype A] [DecidableEq A] (Φ : Option A → sProp 𝕄) :
    bigSep Finset.univ Φ = iprop(Φ none ∗ bigSep Finset.univ fun a => Φ (some a)) := by
  rw [bigSep_univ_equiv ((Equiv.sumComm PUnit A).trans (Equiv.optionEquivSumPUnit A).symm) Φ, bigSep_univ_sum]
  have e : (Finset.univ : Finset PUnit.{1}) = {PUnit.unit} := rfl
  rw [e, bigSep_singleton]; rfl

/-- The tokens of table `a`, half `h` at the device they are of, and at the device they are paid by. -/
abbrev tokOwn (a : Fin 4) (h : Fin 2) (c : Dev nD) : sProp 𝕄 := ring c fun p => dutyTok ER (dcell c a h p) 0 p
abbrev tokPay (a : Fin 4) (h : Fin 2) (c : Dev nD) : sProp 𝕄 := ring c fun p => dutyTok ER (dcell p a h c) 0 c
def toksHalf (h : Fin 2) (c : Dev nD) : sProp 𝕄 := iprop(tokOwn 0 h c ∗ tokOwn 1 h c ∗ tokOwn 2 h c ∗ tokOwn 3 h c)
/-- A device's own duty tokens; -/
def toks (c : Dev nD) : sProp 𝕄 := iprop((ring c fun p => dutyTok ER (barCell c) 0 p) ∗ toksHalf 0 c ∗ toksHalf 1 c)
def payHalf (h : Fin 2) (c : Dev nD) : sProp 𝕄 := iprop(ring c (sendToks c 0 1 h) ∗ ring c (sendToks c 2 3 h))
/-- and those it pays with. -/
def pays (c : Dev nD) : sProp 𝕄 := iprop((ring c fun p => dutyTok ER (barCell p) 0 c) ∗ payHalf 0 c ∗ payHalf 1 c)

omit [FloatOps F] in
theorem toks_eq (c : Dev nD) : (bigSep Finset.univ fun x : TIx => dutyTok ER (tokOf (c, x)).1 (tokOf (c, x)).2.1 (tokOf (c, x)).2.2 : sProp 𝕄) = toks c := by
  unfold toks toksHalf
  rw [bigSep_univ_prod, bigSep_option, ← bigSep_ah fun a h => tokOwn a h c, ring_fin]
  congr 1
  exact bigSep_congr fun x _ => (ring_fin c fun p => dutyTok ER (dcell c x.1 x.2 p) 0 p).symm

omit [FloatOps F] in
theorem half_around (h : Fin 2) : (bigSep Finset.univ (toksHalf h) : sProp 𝕄) ⊢ bigSep Finset.univ (payHalf h) := by
  have e : (payHalf h : Dev nD → sProp 𝕄) = fun c => iprop((tokOwn 0 h c ∗ tokPay 1 h c) ∗ tokOwn 2 h c ∗ tokPay 3 h c) := funext fun c => by
    unfold payHalf sendToks
    rw [ring_sep c (fun p => dutyTok ER (dcell c 0 h p) 0 p) (fun p => dutyTok ER (dcell p 1 h c) 0 c),
      ring_sep c (fun p => dutyTok ER (dcell c 2 h p) 0 p) (fun p => dutyTok ER (dcell p 3 h c) 0 c)]
  rw [e, show (toksHalf h : Dev nD → sProp 𝕄) = fun c => iprop(tokOwn 0 h c ∗ tokOwn 1 h c ∗ tokOwn 2 h c ∗ tokOwn 3 h c) from rfl,
    bigSep_sep', bigSep_sep', bigSep_sep', bigSep_sep', bigSep_sep', bigSep_sep',
    ← ring_turn (fun c p => dutyTok ER (dcell c 1 h p) 0 p), ← ring_turn (fun c p => dutyTok ER (dcell c 3 h p) 0 p)]
  iintro ⟨H0, H1, H2, H3⟩
  isplitl [H0 H1]
  · isplitl [H0] <;> iassumption
  isplitl [H2] <;> iassumption
omit [FloatOps F] in
theorem toks_around : (bigSep Finset.univ fun c : Dev nD => (toks c : sProp 𝕄)) ⊢ bigSep Finset.univ fun c : Dev nD => pays c := by
  unfold toks pays
  rw [bigSep_sep', bigSep_sep', bigSep_sep', bigSep_sep', ← ring_turn (fun c p => dutyTok ER (barCell c) 0 p)]
  iintro ⟨H, H0, H1⟩
  isplitl [H]; · iexact H
  isplitl [H0]
  · iapply (half_around (F := F) 0); iexact H0
  · iapply (half_around (F := F) 1); iexact H1

/-! ## The cells -/

abbrev osem (x : Fin 4 × Fin 2 × Dev nD) : SemLoc sig := .dma (dsem x.1 x.2.1 x.2.2)
abbrev ownZ (c : Dev nD) : sProp 𝕄 := Pipeline.ownSems0 (Ix := Unit) (Name := ℕ) (U := UU) (Lvl := ℕ) (Val := Elt F) (τ := τ) osem c

omit [FloatOps F] in
theorem bar_only (c : Dev nD) : (unscopedSems0 c : sProp 𝕄) = semVal (barCell c) 0 := by
  unfold unscopedSems0; rw [bigSep_eq_bigSepL_of_eq [SemLoc.reg barS] (by decide +kernel) (by decide)]; rfl
omit [FloatOps F] in
theorem zeros_eq (c : Dev nD) : (zeros c : sProp 𝕄) = iprop(unscopedSems0 c ∗ ownZ c) := by
  rw [bar_only]; rfl

/-- What the launch deals device `c` before the cells are opened, -/
def G (c : Dev nD) : sProp 𝕄 :=
  iprop((bigSep Finset.univ fun k : Ix => roundState ER (Rd m ρ) (kcell (c, k)) 0)
    ∗ ((bigSep Finset.univ fun k : Ix => atPos ER (kcell (c, k)) 0 ∅ 0) ∗ bigSep Finset.univ fun k : Ix => reached ER (kcell (c, k)) 0) ∗ toks c)
/-- and after. -/
def G' (c : Dev nD) : sProp 𝕄 :=
  iprop(∃ K : Dev nD × Ix → ℕ, ((bigSep Finset.univ fun ck : Dev nD × Ix => cellInv ER (Rd m ρ) (K ck) (kcell ck))
    ∗ bigSep Finset.univ fun ck : Dev nD × Ix => reached ER (kcell ck) 0) ∗ linear c ∗ diag c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Ix => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  have H := Rounds.fund ER (Rd m ρ) allCells allToks
  rw [hX, hX, hX, hT] at H
  unfold G
  rw [bigSep_sep', bigSep_sep', bigSep_sep']
  refine H.trans (BI.bupd_mono ?_)
  show (_ : sProp 𝕄) ⊢ _
  iintro ⟨H1, H2, H3, H4⟩
  isplitl [H1]; · iexact H1
  isplitl [H2 H3]
  · isplitl [H3] <;> iassumption
  iexact H4

omit [FloatOps F] in
/-- A device's positions: at its barrier, at the semaphores no transfer uses, and half by half at the others. -/
theorem positions (c : Dev nD) : (bigSep Finset.univ fun k : Ix => (atPos ER (kcell (c, k)) 0 ∅ 0 : sProp 𝕄))
    = iprop(atPos ER (barCell c) 0 ∅ 0 ∗ diag c ∗ (posHalf c 0 0 ∗ posHalf c 0 1)) := by
  rw [bigSep_option]
  congr 1
  exact (bigSep_sems c fun a h p => atPos ER (dcell c a h p) 0 ∅ 0).trans (congrArg (fun X => iprop(_ ∗ X)) (bigSep_ah fun a h => posAt c 0 a h))

omit [FloatOps F] in
theorem linear_intro (c : Dev nD) :
    iprop((bigSep Finset.univ fun k : Ix => (atPos ER (kcell (c, k)) 0 ∅ 0 : sProp 𝕄)) ∗ pays c) ⊢ (iprop(linear c ∗ diag c) : sProp 𝕄) := by
  rw [positions]
  unfold pays payHalf linear linHalf posHalf
  iintro ⟨⟨Hb, Hd, P0, P1⟩, T, T0, T1⟩
  isplitr [Hd]
  · isplitl [Hb]; · iexact Hb
    isplitl [T]; · iexact T
    isplitl [P0 T0]
    · isplitl [P0] <;> iassumption
    · isplitl [P1] <;> iassumption
  iexact Hd

theorem open_cell (ck : Dev nD × Ix) : iprop(semVal (kcell ck) 0 ∗ roundState ER (Rd m ρ) (kcell ck) 0)
    ⊢ (|={Set.univ}=> iprop(∃ κ : ℕ, cellInv ER (Rd m ρ) κ (kcell ck)) : sProp 𝕄) :=
  (Rounds.body_intro ER (Rd m ρ) (kcell ck)).trans inv_alloc

omit [FloatOps F] in
theorem all_zero : (bigSep Finset.univ fun c : Dev nD => iprop(ownZ c ∗ unscopedSems0 c) : sProp 𝕄) ⊢ bigSep Finset.univ fun ck : Dev nD × Ix => semVal (kcell ck) 0 := by
  rw [bigSep_univ_prod]
  refine bigSep_mono fun c _ => ?_
  rw [bigSep_option, bar_only]
  show (_ : sProp 𝕄) ⊢ _
  iintro ⟨H1, H2⟩
  isplitl [H2]; · iexact H2
  iapply (show (ownZ c : sProp 𝕄) ⊢ bigSep Finset.univ fun x : Fin 4 × Fin 2 × Dev nD => semVal (kcell (c, some x)) 0 from .rfl); iexact H1

/-- All devices' cells opened at once, and the tokens dealt. -/
theorem glob : (bigSep Finset.univ fun c => iprop(ownZ c ∗ unscopedSems0 c ∗ G m ρ c) : sProp 𝕄) ⊢ |={Set.univ}=> bigSep Finset.univ (G' m ρ) := by
  unfold G
  rw [bigSep_sep', bigSep_sep', bigSep_sep', bigSep_sep', bigSep_sep', ← bigSep_univ_prod (fun ck : Dev nD × Ix => (roundState ER (Rd m ρ) (kcell ck) 0 : sProp 𝕄)),
    ← bigSep_univ_prod (fun ck : Dev nD × Ix => (reached ER (kcell ck) 0 : sProp 𝕄))]
  iintro ⟨Ho, Hu, Hst, ⟨Hat, #HR⟩, Ht⟩
  ihave Hz := ((Entails.of_eq (bigSep_sep' Finset.univ ownZ (fun c : Dev nD => unscopedSems0 c)).symm).trans (all_zero (F := F))) $$ [Ho Hu]
  · isplitl [Ho] <;> iassumption
  imod ((Entails.of_eq (bigSep_sep' Finset.univ (fun ck : Dev nD × Ix => semVal (kcell ck) 0) (fun ck => roundState ER (Rd m ρ) (kcell ck) 0)).symm).trans
    ((bigSep_mono fun ck _ => open_cell m ρ ck).trans (bigSep_fupd _ _))) $$ [Hz Hst] with HI
  · isplitl [Hz] <;> iassumption
  ihave HI := (BI.bigSep_exists_pi Finset.univ (fun (ck : Dev nD × Ix) (κ : ℕ) => (cellInv ER (Rd m ρ) κ (kcell ck) : sProp 𝕄))) $$ HI
  icases HI with ⟨%K, #HI⟩
  ihave Ht := (toks_around (F := F)) $$ Ht
  imodintro
  iapply (show iprop(((bigSep Finset.univ fun ck : Dev nD × Ix => cellInv ER (Rd m ρ) (K ck) (kcell ck))
        ∗ bigSep Finset.univ fun ck : Dev nD × Ix => reached ER (kcell ck) 0) ∗ bigSep Finset.univ fun c : Dev nD => iprop(linear c ∗ diag c))
      ⊢ (bigSep Finset.univ (G' m ρ) : sProp 𝕄) from bigSep_using fun c _ => by
        unfold G'
        iintro ⟨#HR, H⟩
        iexists K
        isplitr; · iexact HR
        iexact H)
  isplitr
  · isplitr; · iexact HI
    iexact HR
  iapply ((Entails.of_eq (bigSep_sep' Finset.univ (fun c : Dev nD => bigSep Finset.univ fun k : Ix => (atPos ER (kcell (c, k)) 0 ∅ 0 : sProp 𝕄)) pays).symm).trans
    (bigSep_mono fun c _ => linear_intro c))
  isplitl [Hat] <;> iassumption

/-! ## The credits -/

theorem dues_sum (f : Fin 15 → CellTallies nD τ sig Unit) : dues f dists = ∑ r, f r := by
  have e : ∀ l : List (Fin 15), dues f l = (l.map f).sum := fun l => by
    induction l with
    | nil => rfl
    | cons r l ih => show f r + dues f l = _; rw [ih, List.map_cons, List.sum_cons]
  rw [e, Fin.sum_univ_def]
  exact congrArg (fun l => (List.map f l).sum) (by decide : dists = List.finRange 15)

/-- What is owed to every device's cells, by the device it is owed to. -/
theorem sum_turn (f : Dev nD → Dev nD → CellTallies nD τ sig Unit) : ∑ d, dues (fun r => f (rot d r) d) dists = ∑ c, dues (fun r => f c (rot c r)) dists := by
  simp only [dues_sum]
  rw [← Fintype.sum_prod_type' (fun d r => f (rot d r) d), ← Fintype.sum_prod_type' (fun c r => f c (rot c r)), ← Equiv.sum_comp turn]
  refine Finset.sum_congr rfl fun x _ => ?_
  show f (rot (rot x.1 x.2) x.2.rev) (rot x.1 x.2) = _
  rw [rot_back]

/-- The credit of device `c`'s arrivals on table `a`. -/
def gX (c : Dev nD) (a : Fin 4) (h : Fin 2) (r : Fin 15) : CellTallies nD τ sig Unit := tallyAt (dcell c a h (rot c r)) () N
def T (c : Dev nD) : CellTallies nD τ sig Unit :=
  dues (fun _ => tallyAt (barCell c) () 1) dists + (dues (gX c 1 0) dists + (dues (gX c 1 1) dists + (dues (gX c 3 0) dists + (dues (gX c 3 1) dists + 0))))

theorem owed_total : ∑ d, O₀ d = ∑ d, T d := by
  unfold O₀ Z1 Z2 Z3 Z4 T fBar fX gX
  simp only [Finset.sum_add_distrib]
  rw [sum_turn (fun c _ => tallyAt (barCell c) () 1), sum_turn (fun c d => tallyAt (dcell c 1 0 d) () N), sum_turn (fun c d => tallyAt (dcell c 1 1 d) () N),
    sum_turn (fun c d => tallyAt (dcell c 3 0 d) () N), sum_turn (fun c d => tallyAt (dcell c 3 1 d) () N)]

/-- A tally of device `c`'s own cells. -/
def OwnOnly (c : Dev nD) (O : CellTallies nD τ sig Unit) : Prop := ∀ g, O g ≠ 0 → g.1 = (c.tc : Thread nD τ)
theorem own_add {c : Dev nD} {O O' : CellTallies nD τ sig Unit} (h : OwnOnly c O) (h' : OwnOnly c O') : OwnOnly c (O + O') := fun g hg => by
  by_cases e : O g = 0
  · exact h' g fun e' => hg (by rw [Pi.add_apply, e, e', add_zero])
  · exact h g e
theorem own_tally (c : Dev nD) (sm : SemLoc sig) (k : ℕ) : OwnOnly c (tallyAt ((c : Thread nD τ), sm) () k) := fun g hg => by
  by_contra hn
  exact hg (tallyAt_ne_cell (fun e => hn (congrArg Prod.fst e)) () k)
theorem own_dues {c : Dev nD} (f : Fin 15 → CellTallies nD τ sig Unit) (hf : ∀ r, OwnOnly c (f r)) : ∀ l, OwnOnly c (dues f l)
  | [] => fun g hg => absurd rfl hg
  | r :: l => own_add (hf r) (own_dues f hf l)
theorem own_T (c : Dev nD) : OwnOnly c (T c) :=
  own_add (own_dues _ (fun _ => own_tally _ _ _) _) <| own_add (own_dues _ (fun _ => own_tally _ _ _) _) <| own_add (own_dues _ (fun _ => own_tally _ _ _) _) <|
    own_add (own_dues _ (fun _ => own_tally _ _ _) _) <| own_add (own_dues _ (fun _ => own_tally _ _ _) _) fun g hg => absurd rfl hg

omit [FloatOps F] in
theorem cred_dues (f : Fin 15 → CellTallies nD τ sig Unit) : ∀ l, (cred (dues f l) : sProp 𝕄) ⊢ bigSepL l fun r => cred (f r)
  | [] => by
    show (cred 0 : sProp 𝕄) ⊢ _
    rw [cred_zero]; exact .rfl
  | [r] => by
    show (cred (f r + 0) : sProp 𝕄) ⊢ cred (f r)
    rw [add_zero]
  | r :: s :: l => (cred_add _ _).1.trans (sep_mono_right (cred_dues f (s :: l)))

theorem bar_fifteen (c : Dev nD) : dues (fun _ => tallyAt (barCell c) () 1) dists = (tallyAt (barCell c) () 15 : CellTallies nD τ sig Unit) := by
  simp only [dists, dues, tallyAt_add, add_zero]

omit [FloatOps F] in
theorem creds_intro (c : Dev nD) : (Pipeline.launchCred O₀ c : sProp 𝕄) ⊢ creds c := by
  rw [Pipeline.launchCred_of_sum O₀ T owed_total own_T c]
  unfold T creds credHalf
  rw [bar_fifteen, add_zero]
  iintro H
  ihave H := (cred_add _ _).1 $$ H
  icases H with ⟨Hb, H⟩
  ihave H := (cred_add _ _).1 $$ H
  icases H with ⟨H10, H⟩
  ihave H := (cred_add _ _).1 $$ H
  icases H with ⟨H11, H⟩
  ihave H := (cred_add _ _).1 $$ H
  icases H with ⟨H30, H31⟩
  isplitl [Hb]; · iexact Hb
  isplitl [H10 H30]
  · isplitl [H10]
    · iapply (show (cred (dues (gX c 1 0) dists) : sProp 𝕄) ⊢ ring c (gone c 1 0) from cred_dues (gX c 1 0) dists); iexact H10
    · iapply (show (cred (dues (gX c 3 0) dists) : sProp 𝕄) ⊢ ring c (gone c 3 0) from cred_dues (gX c 3 0) dists); iexact H30
  · isplitl [H11]
    · iapply (show (cred (dues (gX c 1 1) dists) : sProp 𝕄) ⊢ ring c (gone c 1 1) from cred_dues (gX c 1 1) dists); iexact H11
    · iapply (show (cred (dues (gX c 3 1) dists) : sProp 𝕄) ⊢ ring c (gone c 3 1) from cred_dues (gX c 3 1) dists); iexact H31

end Cert.AllReduce

end
-- ==== Proof.Launch.lean ====
/- The run of the all-reduce on the mesh, over any float: the pipeline's proof data, the body between its two ends, and the
   launch. -/
module

public import proofs.«01_k».proof.Proof.Deal
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

def scratch (c : Dev nD) : sProp 𝕄 := iprop(whole c cc0_scratch0 ∗ whole c cc0_scratch1 ∗ whole c cc0_scratch2)
/-- A device's protocol records and credits at the start. -/
def start (c : Dev nD) : sProp 𝕄 := iprop((∃ K, recs m ρ K ∗ linear c ∗ diag c) ∗ creds c)
def Φ₀ (c : Dev nD) : sProp 𝕄 := iprop(start m ρ c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev tP : Fin cfg0.N := t0_0

/-! ## The body -/

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
omit [FloatOps F] in
theorem owns_stg (c : Dev nD) (b : Ref sig .tc) (X : b.ty.Contents (Elt F)) : (owns (c : Thread nD τ) (Memref.whole b) fullShare X : sProp 𝕄) = stg c b X := by
  unfold owns; simp only [Memref.view_whole, View.read_whole, View.set_whole]

def stageIn (c : Dev nD) : sProp 𝕄 :=
  iprop(Φ₀ m ρ c ∗ (dats m ρ 0 c).owesAt () tP.castSucc ∗ (∃ d, stg c cc0_stg0_0 ((dats m ρ 0 c).before (0 : Fin 2) tP d))
    ∗ (∃ d, stg c cc0_stg1_0 ((dats m ρ 0 c).before (1 : Fin 2) tP d)))
def stageOut (c : Dev nD) : sProp 𝕄 :=
  iprop(Φ₁ c ∗ (dats m ρ 0 c).owesAt () tP.succ ∗ stg c cc0_stg0_0 (xstg m ρ c) ∗ stg c cc0_stg1_0 (outC m ρ))

theorem owes_in (c : Dev nD) : (dats m ρ 0 c).owesAt () tP.castSucc ⊢ (owesAny c (O₀ c) : sProp 𝕄) := by
  unfold Dat.owesAt Pipeline.owesWithin owesAny
  iintro ⟨%W, -, H⟩
  iexists W; iexact H
theorem owes_out (c : Dev nD) : (owesAny c 0 : sProp 𝕄) ⊢ (dats m ρ 0 c).owesAt () tP.succ := by
  unfold Dat.owesAt Pipeline.owesWithin owesAny
  iintro ⟨%W, H⟩
  iexists W
  isplitr; · ipureintro; exact fun _ _ => Or.inl trivial
  iexact H

theorem stage_exit (K : Dev nD × Ix → ℕ) (c : Dev nD) :
    iprop(recs m ρ K ∗ diag c ∗ bodyOut m ρ c ∗ owesAny c 0) ⊢ (|={Set.univ}=> stageOut m ρ c : sProp 𝕄) := by
  iintro ⟨#HR, Hd, Hb, HO⟩
  ihave H := (body_exit m ρ c) $$ Hb
  icases H with ⟨HM, HP⟩
  imod (close_all m ρ K c) $$ [HP Hd] with Hz
  · isplitr; · iexact HR
    isplitl [HP] <;> iassumption
  imodintro
  unfold memOut stageOut Φ₁ scratch
  icases HM with ⟨Hx, Ho, Hs⟩
  isplitl [Hs Hz]
  · isplitl [Hs] <;> iassumption
  isplitl [HO]; · iapply (owes_out m ρ c); iexact HO
  isplitl [Hx]
  · iexists _; isplitr; · (ipureintro; rfl)
    iexact Hx
  iexists _; isplitr; · (ipureintro; rfl)
  iexact Ho

/-- The body on the buffers the pipeline gives it. -/
abbrev foldedBody : BProg F :=
  folded xM oM (Memref.isWhole_whole _) sM (Memref.isWhole_whole _) rM (Memref.isWhole_whole _) gM (Memref.isWhole_whole _)
    cc0_scratch3 cc0_scratch4 cc0_scratch5 cc0_scratch6

theorem stage_body (c : Dev nD) : stageIn m ρ c ⊢ WP c foldedBody (fun _ => iprop(|={Set.univ}=> stageOut m ρ c)) := by
  unfold stageIn Φ₀ start scratch
  iintro ⟨⟨⟨⟨%K, #HR, HL, Hd⟩, HC⟩, Hs0, Hs1, Hs2⟩, HO, ⟨%d0, %g0, %hg0, Hx⟩, ⟨%d1, %g1, -, Ho⟩⟩
  have hx : g0 = xstg m ρ c := by rw [hg0]; unfold Dat.before; rw [if_pos (fetch0_0 tP)]; rfl
  subst hx
  ihave HO := (owes_in m ρ c) $$ HO
  iapply (run_body m ρ K c (fun _ => iprop(|={Set.univ}=> stageOut m ρ c)) (Memref.isWhole_whole _) (Memref.isWhole_whole _) (Memref.isWhole_whole _) (Memref.isWhole_whole _) (Memref.isWhole_whole _))
    $$ [HL HC Hs0 Hs1 Hs2 HO Hx Ho]
  · isplitr; · iexact HR
    isplitr [HO]
    · unfold bodyIn
      isplitl [Hx]; · iexact Hx
      isplitl [Ho Hs0 Hs1 Hs2]
      · isplitl [Ho]; · unfold whole; iexists g1; iexact Ho
        isplitl [Hs0]; · iexact Hs0
        isplitl [Hs1] <;> iassumption
      isplitl [HL] <;> iassumption
    iexact HO
  iintro ⟨Hb, HO⟩
  iapply (stage_exit m ρ K c)
  isplitr; · iexact HR
  isplitl [Hd]; · iexact Hd
  isplitl [Hb] <;> iassumption

theorem body_at : (defs₀ (F := F)) .tc cfg0.body (cfg0.bodyArgs tP (cfg0.slots tP)) = foldedBody :=
  (show _ = cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 from rfl).trans (body_folded ..)

theorem body_obligation (c : Dev nD) : BodyObligation (dats (F := F) m ρ 0 c) (defs₀ (F := F)) 𝒱₀ () Set.univ := fun t => by
  rw [fin_N0 t]
  rw [bigSep_W0 (M := 𝕄), bigSep_W0 (M := 𝕄)]
  simp only [owns_stg]
  rw [show t0_0 = tP from rfl, body_at]
  rw [show (dats m ρ 0 c).Φ tP.castSucc = Φ₀ m ρ c from rfl, show (dats m ρ 0 c).Φ tP.succ = (Φ₁ c : sProp 𝕄) from rfl,
    show (dats m ρ 0 c).after 0 tP = xstg m ρ c from rfl, show (dats m ρ 0 c).after 1 tP = outC m ρ from rfl]
  have H := stage_body m ρ c
  unfold stageIn stageOut WP at H
  generalize foldedBody (F := F) = p at H ⊢
  exact H.trans (wp_fupd Idealize.ShloMosaic.frame (wpE (defs₀ (F := F)) 𝒱₀ (c : Thread nD τ) none) Set.univ p
    (fun _ => iprop(Φ₁ c ∗ (dats m ρ 0 c).owesAt () tP.succ ∗ stg c cc0_stg0_0 (xstg m ρ c) ∗ stg c cc0_stg1_0 (outC m ρ))))

/-! ## The launch's side conditions -/

theorem ownSemFacts : Pipeline.OwnSemFacts cfg0.spec osem :=
  ⟨by decide +kernel, fun x y e => dsem_inj (SemLoc.dma.inj e), by decide +kernel⟩

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ emp) : sProp 𝕄) := by
  unfold G' start recs
  iintro ⟨-, #Hlev, Hcr, -, ⟨%K, ⟨#HI, #HR⟩, HL, Hd⟩⟩
  ihave Hc := (creds_intro (F := F) c) $$ Hcr
  imodintro
  isplitl
  · isplitr [Hc]
    · iexists K
      isplitr
      · isplitr; · iexact HI
        isplitr; · iexact HR
        iexact Hlev
      isplitl [HL] <;> iassumption
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch whole
  iintro ⟨Hs, -, Hr⟩
  isplitl [Hs]; · iexact Hs
  iexact Hr

theorem phi1_exit (c : Dev nD) :
    (dats m ρ 0 c).Φ (Fin.last cfg0.N) ⊢ (iprop(unscopedSems0 c ∗ Pipeline.ownSems0 osem c ∗ Pipeline.scopedRest cfg0.spec c) : sProp 𝕄) := by
  rw [show (dats m ρ 0 c).Φ (Fin.last cfg0.N) = (Φ₁ c : sProp 𝕄) from rfl, scopedRest0_eq]
  unfold Φ₁ scratch whole
  rw [zeros_eq]
  iintro ⟨Hr, Hu, Hz⟩
  isplitl [Hu]; · iexact Hu
  isplitl [Hz]; · iexact Hz
  iexact Hr

theorem stage_level : ∀ (w : Fin cfg0.W) (s : Fin (cfg0.win w).nbuf), lvOf (.dma ((cfg0.win w).sem s)) = 0 := by decide +kernel

theorem waits (c : Dev nD) : (levAts L lv : sProp 𝕄) ⊢ Pipeline.cellsWaits cfgs (dats m ρ) () 0 c :=
  Pipeline.cellsWaits_intro cfgs (dats m ρ) () 0 c fun w s t =>
    mayWait (F := F) (n := 0) c _ (Nat.le_of_eq (stage_level w s)) (by
      rcases t with ⟨_ | _, ht⟩
      · exact above_O₀ c
      · exact above_zero 0)

/-! ## The run -/

/-- What array `w` of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh of sixteen devices, for any floats, from any memory with zero counters: every weakly fair execution ends, with
    each device's arrays at the contents named and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The addend's array is as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllReduce

end
-- ==== Proof.Value.lean ====
/- What the all-reduce leaves, over exact floats: the sum over the devices of their addends, which is the reference's sum
   along the leading axis. The kernel sums a device's rows starting at the device's own addend and takes the others' in
   ring order; exact addition does not mind. -/
module

public import proofs.«01_k».proof.Defs
public import proofs.«01_k».proof.Proof.Launch
public import proofs.«01_k».proof.Proof.Gen.ReferenceIdeal.Run
public import Idealize.ShloMosaic.Lib.Pipeline.Value
public import Idealize.ShloMosaic.Lib.IdealHost
public import Idealize.ShloMosaic.Lib.Layout
public import Idealize.ShloMosaic.Lib.Pointwise.Reduce
public import Idealize.ShloMosaic.PureOps.Ideal.Laws

@[expose] public section

noncomputable section

namespace Cert.AllReduce

open Cert.KernelIdeal Cert.KernelIdeal.Gen
open Idealize.ShloMosaic Idealize.ShloMosaic.TcCoe
open Idealize.SL.Sem
open scoped BigOperators

section Any
variable {F : FTy → Type} [FloatOps F]
variable (m : (ℓ : Loc nD τ sig) → Buf (Elt F) ℓ) (ρ : Dev nD → PrngReg)

/-- The argument window's block is the whole argument. -/
theorem read_arg (f : main_arg0.ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f
/-- The result window's block is the whole result. -/
theorem read_res (f : main_v1.ty.Contents (Elt F)) : (win0_1.blk (0 : Fin 1)).view.read (Elt F) f = f :=
  Memref.read_access_unit_zero (Elt F) main_v1 (off := fun a => (win0_1.index (0 : Fin 1)) a * main_v1.ty.shape.size a)
    (funext fun a => by fin_cases a <;> decide) (fun a => by fin_cases a <;> decide) f

/-- A device's result array ends at the reduced rows. -/
theorem finalA_res (c : Dev nD) : finalA m ρ c (1 : Fin 2) = outC m ρ := by
  rw [← read_res (F := F) (finalA m ρ c (1 : Fin 2))]
  unfold finalA
  rw [show cfg0.N = tP.val + 1 from rfl, (dats m ρ 0 c).arrAt_succ (1 : Fin 2) tP, if_pos (flush0_1 tP)]
  exact View.read_write_univ _ _

/-- The run leaves the argument and every counter at zero. -/
theorem frame_any : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run (defs (F := F)) _ _).mono (fun _ h => ⟨fun c => (h.1 c (0 : Fin 2)).trans (finalA_x m ρ c), h.2⟩) (run_main m ρ)

/-- An element of the rows which device `c` sends for device `s`. -/
theorem slab_apply (c : Dev nD) (h : Fin 2) (s : Dev nD) (y : S8x256.Idx) (k : S1x256x256.Idx)
    (e1 : (k 1).val = 16 * s.val + 8 * h.val + (y 0).val) (e2 : (k 2).val = (y 1).val) :
    slab m ρ c h s y = (m ((c : Thread nD τ).loc main_arg0) : S1x256x256.Idx → Elt F .bf16) k := by
  have hx : xstg m ρ c = m ((c : Thread nD τ).loc main_arg0) := read_arg _
  show k0_pay1 (xstg m ρ c) ((rowsRect (h, s)).emb y) = _
  rw [hx]
  unfold k0_pay1
  rw [Idealize.ShloMosaic.shapeCast_self, Idealize.ShloMosaic.shapeCast_dropUnit_apply ![256, 256]]
  refine congrArg _ (funext fun a => Fin.ext ?_)
  match a with
  | 0 => have := (k 0).isLt; show 0 = (k 0).val; have : (k 0).val < 1 := this; omega
  | 1 => show 16 * s.val + 8 * h.val + 1 * (y 0).val = (k 1).val; omega
  | 2 => show 0 + 1 * (y 1).val = (k 2).val; omega

end Any

/-! ## The exact sum -/

variable (m : (ℓ : Loc nD τ sig) → Buf (Elt Ideal) ℓ) (ρ : Dev nD → PrngReg)

/-- The addends taken in one after another, at an element. -/
theorem accum_apply (c : Dev nD) (h : Fin 2) (y : S8x256.Idx) : ∀ (l : List (Fin 15)) (a : FVec Ideal S8x256 .f32),
    (accum m ρ c h l a y : EReal) = a y + (l.map fun r => (slab m ρ (rot c r) h c y : EReal)).sum
  | [], a => (add_zero (M := EReal) (a y)).symm
  | r :: l, a => by
    show (accum m ρ c h l (addf a (extf .f32 (slab m ρ (rot c r) h c) bitsLt_bf16_f32)) y : EReal) = _
    rw [accum_apply c h y l, List.map_cons, List.sum_cons]
    exact add_assoc (G := EReal) _ _ _

/-- A sum over the devices: this device's term and the others' in ring order. -/
theorem sum_dev (c : Dev nD) (f : Dev nD → EReal) : f c + (dists.map fun r => f (rot c r)).sum = ∑ d : Dev nD, f d := by
  rw [← Finset.add_sum_erase Finset.univ f (Finset.mem_univ c), others_eq c, List.sum_toFinset (M := EReal) f (others_nodup c), List.map_map]
  rfl

/-- The reduced rows at an element: the sum over the devices. -/
theorem red_apply (c : Dev nD) (h : Fin 2) (y : S8x256.Idx) : (red m ρ c h y : EReal) = ∑ d : Dev nD, (slab m ρ d h c y : EReal) :=
  (accum_apply m ρ c h y dists _).trans (sum_dev c fun d => (slab m ρ d h c y : EReal))

/-- The element of a device's addend at a position. -/
abbrev at1 (j : S256x256.Idx) : S1x256x256.Idx := ix3 0 (j 0) (j 1)

/-- What a device's argument holds at the start, as exact numbers. -/
def argOf (d : Dev nD) (k : S1x256x256.Idx) : EReal := (m ((d : Thread nD τ).loc main_arg0) : S1x256x256.Idx → Elt Ideal .bf16) k

/-- The result at a position: the sum over the devices of what their arguments hold there. -/
theorem outC_apply (j : S256x256.Idx) :
    (outC m ρ j : EReal) = ∑ d : Dev nD, argOf m d (at1 j) := by
  refine (red_apply m ρ (devIx j) (halfIx j) (lowIx j)).trans (Finset.sum_congr (M := EReal) rfl fun d _ => ?_)
  refine slab_apply m ρ d (halfIx j) (devIx j) (lowIx j) (at1 j) ?_ rfl
  show (j 0).val = 16 * ((j 0).val / 16) + 8 * ((j 0).val % 16 / 8) + (j 0).val % 8
  omega

/-- The reference's value of a whole argument, at a position: the sum along the leading axis. -/
theorem ref_apply (X : FVec Ideal Cert.ReferenceIdeal.S16x256x256 .f32) (hr : Cert.ReferenceIdeal.S16x256x256.ReducesTo [0] Cert.ReferenceIdeal.S256x256)
    (hu : 0 < Cert.ReferenceIdeal.S_.numel) (j : S256x256.Idx) :
    (Host.reduceAdd X (constant Cert.ReferenceIdeal.S_ .f32 0x00000000#32) hr hu j : EReal) = ∑ d : Fin 16, (X (ix3 d (j 0) (j 1)) : EReal) := by
  refine ((ValueIdx.hostReduceAdd_apply X _ hr hu j).trans (Ideal.hostReduceAdd_r3_a0 hr X _ j)).trans ?_
  refine (congrArg (· + _) (Ideal.ofBits_zero_f32)).trans ?_
  exact zero_add (M := EReal) _

/-- With every device's argument its block of the whole, the devices end at the reference's value. -/
theorem outC_eq_ref (X : FVec Ideal Cert.ReferenceIdeal.S16x256x256 .bf16) (ht : Layout.Tiles ⟨3, ![1, 256, 256]⟩ ⟨3, ![16, 256, 256]⟩ 0 16)
    (hm : ∀ c : Dev nD, m ((c : Thread nD τ).loc main_arg0) = Layout.block ⟨3, ![1, 256, 256]⟩ ⟨3, ![16, 256, 256]⟩ 0 16 c X ht)
    (hr : Cert.ReferenceIdeal.S16x256x256.ReducesTo [0] Cert.ReferenceIdeal.S256x256) (hu : 0 < Cert.ReferenceIdeal.S_.numel)
    (hb : FTy.bits .bf16 < FTy.bits .f32) :
    outC m ρ = truncf .bf16 (Host.reduceAdd (extf .f32 X hb) (constant Cert.ReferenceIdeal.S_ .f32 0x00000000#32) hr hu) hb := by
  funext j
  refine (outC_apply m ρ j).trans (Eq.trans ?_ (ref_apply (extf .f32 X hb) hr hu j).symm)
  refine Finset.sum_congr (M := EReal) rfl fun d _ => ?_
  unfold argOf
  rw [hm d, Layout.block_apply]
  refine congrArg X (funext fun a => Fin.ext ?_)
  rw [Layout.Tiles.idx_val]
  match a with
  | 0 => show d.val * 1 + 0 = d.val; omega
  | 1 => rfl
  | 2 => rfl

/-- `Cert.algebraic_KernelIdeal_ReferenceIdeal`: every device of the kernel ends at the reference's sum. -/
theorem algebraic : Cert.algebraic_KernelIdeal_ReferenceIdeal := by
  intro m ρ m' ρ' _ hagree
  have href := Cert.ReferenceIdeal.Value.run (F := Ideal) m' ρ'
  refine ⟨_, ?_, (θ_run Cert.ReferenceIdeal.defs _ _).mono (fun _ h => h 0) href⟩
  refine (θ_run Cert.KernelIdeal.defs _ _).mono (fun _ h c => ⟨(h.1 c (1 : Fin 2)).trans ?_, (h.1 c (0 : Fin 2)).trans (finalA_x m ρ c)⟩)
    (run_main (F := Ideal) m ρ)
  exact (finalA_res m ρ c).trans (outC_eq_ref m ρ _ _ hagree _ _ _)

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two texts of the kernel's body are the same. -/
theorem bodies_eq : Cert.Kernel.defs₀ (F := Bits) = Cert.KernelIdeal.defs₀ (F := Bits) := by
  funext κ l x
  match κ with
  | .tc => match l with
    | ⟨0, _⟩ => rfl
  | .scScalar _ => rfl
  | .scVector _ _ => rfl
/-- And so are the pipelines around it. -/
theorem tables_eq : Cert.Kernel.defs (F := Bits) = Cert.KernelIdeal.defs (F := Bits) :=
  congrArg (Pipeline.defs (Cert.Kernel.pcfgs (F := Bits))) bodies_eq
/-- The kernel runs at bit patterns, leaves its argument and every counter at zero. -/
theorem frame_kernel : Cert.quiescent_Kernel := by
  intro m ρ _
  rw [tables_eq]
  exact Cert.AllReduce.frame_any (F := Bits) m ρ
/-- The same over exact numbers. -/
theorem frame_ideal : Cert.quiescent_KernelIdeal := fun m ρ _ => Cert.AllReduce.frame_any (F := Ideal) m ρ
/-- The reference's run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.AllReduce.algebraic⟩

end Cert.Proof

end
